-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S1 : Shape := ⟨1, ![1]⟩
abbrev S4 : Shape := ⟨1, ![4]⟩
abbrev S32 : Shape := ⟨1, ![32]⟩
abbrev S32x1 : Shape := ⟨2, ![32, 1]⟩
abbrev S1x256x2048 : Shape := ⟨3, ![1, 256, 2048]⟩
abbrev S256x2048 : Shape := ⟨2, ![256, 2048]⟩
abbrev S11 : Shape := ⟨1, ![11]⟩
abbrev S8 : Shape := ⟨1, ![8]⟩
abbrev S3 : Shape := ⟨1, ![3]⟩
abbrev S2 : Shape := ⟨1, ![2]⟩
abbrev S256 : Shape := ⟨1, ![256]⟩
abbrev S256x1 : Shape := ⟨2, ![256, 1]⟩

abbrev nBuf : Space → Nat
  | .hbm => 113
  | .vmem => 8
  | .smem => 1
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i1⟩
  | .hbm, ⟨29, _⟩ => ⟨S_, .i1⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S1, .i32⟩
  | .hbm, ⟨57, _⟩ => ⟨S4, .i32⟩
  | .hbm, ⟨58, _⟩ => ⟨S32, .i32⟩
  | .hbm, ⟨59, _⟩ => ⟨S_, .i32⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32, .i32⟩
  | .hbm, ⟨64, _⟩ => ⟨S_, .i32⟩
  | .hbm, ⟨65, _⟩ => ⟨S32, .i32⟩
  | .hbm, ⟨66, _⟩ => ⟨S32, .i1⟩
  | .hbm, ⟨67, _⟩ => ⟨S32, .i32⟩
  | .hbm, ⟨68, _⟩ => ⟨S32, .i32⟩
  | .hbm, ⟨69, _⟩ => ⟨S_, .i32⟩
  | .hbm, ⟨70, _⟩ => ⟨S32, .i32⟩
  | .hbm, ⟨71, _⟩ => ⟨S32, .i1⟩
  | .hbm, ⟨72, _⟩ => ⟨S32, .i1⟩
  | .hbm, ⟨73, _⟩ => ⟨S_, .i32⟩
  | .hbm, ⟨74, _⟩ => ⟨S32, .i32⟩
  | .hbm, ⟨75, _⟩ => ⟨S32, .i32⟩
  | .hbm, ⟨76, _⟩ => ⟨S32, .i32⟩
  | .hbm, ⟨77, _⟩ => ⟨S_, .i32⟩
  | .hbm, ⟨78, _⟩ => ⟨S32, .i32⟩
  | .hbm, ⟨79, _⟩ => ⟨S32, .i1⟩
  | .hbm, ⟨80, _⟩ => ⟨S_, .i32⟩
  | .hbm, ⟨81, _⟩ => ⟨S32, .i32⟩
  | .hbm, ⟨82, _⟩ => ⟨S32, .i32⟩
  | .hbm, ⟨83, _⟩ => ⟨S32, .i32⟩
  | .hbm, ⟨84, _⟩ => ⟨S32x1, .i32⟩
  | .hbm, ⟨85, _⟩ => ⟨S32, .i32⟩
  | .hbm, ⟨86, _⟩ => ⟨S_, .i32⟩
  | .hbm, ⟨87, _⟩ => ⟨S32, .i32⟩
  | .hbm, ⟨88, _⟩ => ⟨S32, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S32, .i32⟩
  | .hbm, ⟨96, _⟩ => ⟨S32, .i32⟩
  | .hbm, ⟨97, _⟩ => ⟨S_, .i32⟩
  | .hbm, ⟨98, _⟩ => ⟨S32, .i32⟩
  | .hbm, ⟨99, _⟩ => ⟨S32, .i1⟩
  | .hbm, ⟨100, _⟩ => ⟨S_, .i32⟩
  | .hbm, ⟨101, _⟩ => ⟨S32, .i32⟩
  | .hbm, ⟨102, _⟩ => ⟨S32, .i1⟩
  | .hbm, ⟨103, _⟩ => ⟨S_, .i32⟩
  | .hbm, ⟨104, _⟩ => ⟨S_, .i1⟩
  | .hbm, ⟨105, _⟩ => ⟨S32, .i1⟩
  | .hbm, ⟨106, _⟩ => ⟨S32, .i1⟩
  | .hbm, ⟨107, _⟩ => ⟨S32, .i1⟩
  | .hbm, ⟨108, _⟩ => ⟨S32, .i32⟩
  | .hbm, ⟨109, _⟩ => ⟨S32, .i32⟩
  | .hbm, ⟨110, _⟩ => ⟨S32, .i32⟩
  | .hbm, ⟨111, _⟩ => ⟨S8192x2048, .f32⟩
  | .hbm, ⟨112, _⟩ => ⟨S8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .smem, ⟨0, _⟩ => ⟨S32, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_c_1 : Ref sig .tc := ⟨.hbm, 23, rfl⟩
abbrev main_call0_v4 : Ref sig .tc := ⟨.hbm, 24, rfl⟩
abbrev main_call0_c_2 : Ref sig .tc := ⟨.hbm, 25, rfl⟩
abbrev main_call0_v5 : Ref sig .tc := ⟨.hbm, 26, rfl⟩
abbrev main_call0_c_3 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_v13 : Ref sig .tc := ⟨.hbm, 37, rfl⟩
abbrev main_c_6 : Ref sig .tc := ⟨.hbm, 38, rfl⟩
abbrev main_v14 : Ref sig .tc := ⟨.hbm, 39, rfl⟩
abbrev main_v15 : Ref sig .tc := ⟨.hbm, 40, rfl⟩
abbrev main_c_7 : Ref sig .tc := ⟨.hbm, 41, rfl⟩
abbrev main_v16 : Ref sig .tc := ⟨.hbm, 42, rfl⟩
abbrev main_c_8 : Ref sig .tc := ⟨.hbm, 43, rfl⟩
abbrev main_v17 : Ref sig .tc := ⟨.hbm, 44, rfl⟩
abbrev main_v18 : Ref sig .tc := ⟨.hbm, 45, rfl⟩
abbrev main_c_9 : Ref sig .tc := ⟨.hbm, 46, rfl⟩
abbrev main_v19 : Ref sig .tc := ⟨.hbm, 47, rfl⟩
abbrev main_c_10 : Ref sig .tc := ⟨.hbm, 48, rfl⟩
abbrev main_v20 : Ref sig .tc := ⟨.hbm, 49, rfl⟩
abbrev main_c_11 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_12 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_c : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_0 : Ref sig .tc := ⟨.hbm, 73, rfl⟩
abbrev main_call1_v12 : Ref sig .tc := ⟨.hbm, 74, rfl⟩
abbrev main_call1_v13 : Ref sig .tc := ⟨.hbm, 75, rfl⟩
abbrev main_v29 : Ref sig .tc := ⟨.hbm, 76, rfl⟩
abbrev main_c_13 : Ref sig .tc := ⟨.hbm, 77, rfl⟩
abbrev main_v30 : Ref sig .tc := ⟨.hbm, 78, rfl⟩
abbrev main_v31 : Ref sig .tc := ⟨.hbm, 79, rfl⟩
abbrev main_c_14 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_15 : Ref sig .tc := ⟨.hbm, 86, rfl⟩
abbrev main_v37 : Ref sig .tc := ⟨.hbm, 87, rfl⟩
abbrev main_v38 : Ref sig .tc := ⟨.hbm, 88, rfl⟩
abbrev main_c_16 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_1 : Ref sig .tc := ⟨.hbm, 97, rfl⟩
abbrev main_call2_v5 : Ref sig .tc := ⟨.hbm, 98, rfl⟩
abbrev main_call2_v6 : Ref sig .tc := ⟨.hbm, 99, rfl⟩
abbrev main_call2_c_2 : Ref sig .tc := ⟨.hbm, 100, rfl⟩
abbrev main_call2_v7 : Ref sig .tc := ⟨.hbm, 101, rfl⟩
abbrev main_call2_v8 : Ref sig .tc := ⟨.hbm, 102, rfl⟩
abbrev main_call2_c_3 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_v39 : Ref sig .tc := ⟨.hbm, 110, rfl⟩
abbrev main_v41_0 : Ref sig .tc := ⟨.hbm, 111, rfl⟩
abbrev main_v41_1 : Ref sig .tc := ⟨.hbm, 112, rfl⟩
abbrev main_v40 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev barrier0 : Sem sig := 0

abbrev nD : Nat := 16
abbrev τ : Topo := Topo.v7x

variable {F : FTy → Type} [FloatOps F]

abbrev grid0 : Pipeline.Grid := ⟨1, ![32], ![false]⟩

abbrev pre0 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_22 : BitVec 32 := 0#32
  let v40 : BitVec 1 := Scalar.cmpi .eq arg0 c0_i32_22
  let v41 : BitVec 32 := Scalar.extui v40
  let c0_i32_23 : BitVec 32 := 0#32
  let v42 : BitVec 1 := Scalar.cmpi .ne v41 c0_i32_23
  v42

def k0_dev1 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v90 : BitVec 32 := Scalar.muli v2 c8_i32_48
  let v91 : BitVec 32 := Scalar.addi c0_i32_49 v90
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_50 : BitVec 32 := 4#32
  let v92 : BitVec 32 := Scalar.muli v19 c4_i32_50
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v94 : BitVec 32 := Scalar.muli v8 c1_i32_51
  let v95 : BitVec 32 := Scalar.addi v93 v94
  v95.toNat
def k0_dev2 (d0 : Dev nD) : Nat :=
  let c0_i32_54 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_53 : BitVec 32 := 8#32
  let v96 : BitVec 32 := Scalar.muli v20 c8_i32_53
  let v97 : BitVec 32 := Scalar.addi c0_i32_54 v96
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_55 : BitVec 32 := 4#32
  let v98 : BitVec 32 := Scalar.muli v5 c4_i32_55
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v100 : BitVec 32 := Scalar.muli v8 c1_i32_56
  let v101 : BitVec 32 := Scalar.addi v99 v100
  v101.toNat
def k0_dev3 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v102 : BitVec 32 := Scalar.muli v2 c8_i32_58
  let v103 : BitVec 32 := Scalar.addi c0_i32_59 v102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_60 : BitVec 32 := 4#32
  let v104 : BitVec 32 := Scalar.muli v5 c4_i32_60
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_61 : BitVec 32 := 1#32
  let v106 : BitVec 32 := Scalar.muli v23 c1_i32_61
  let v107 : BitVec 32 := Scalar.addi v105 v106
  v107.toNat
def k0_off2 (d0 : Dev nD) (c0_i32_62 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c2048_i32 : BitVec 32 := 2048#32
  let v26 : BitVec 32 := Scalar.muli v25 c2048_i32
  let v108 : BitVec 32 := Scalar.addi v26 c0_i32_62
  let c0_i32_70 : BitVec 32 := 0#32
  ![v108.toNat, 0]
def k0_off3 (d0 : Dev nD) (c0_i32_62 : BitVec 32) : Fin 3 → Nat :=
  let c0_i32_63 : BitVec 32 := 0#32
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c2048_i32 : BitVec 32 := 2048#32
  let v26 : BitVec 32 := Scalar.muli v25 c2048_i32
  let v108 : BitVec 32 := Scalar.addi v26 c0_i32_62
  let c0_i32_71 : BitVec 32 := 0#32
  ![0, v108.toNat, 0]
def k0_dev4 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v109 : BitVec 32 := Scalar.muli v2 c8_i32_66
  let v110 : BitVec 32 := Scalar.addi c0_i32_67 v109
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_68 : BitVec 32 := 4#32
  let v111 : BitVec 32 := Scalar.muli v19 c4_i32_68
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v113 : BitVec 32 := Scalar.muli v8 c1_i32_69
  let v114 : BitVec 32 := Scalar.addi v112 v113
  v114.toNat
def k0_dev5 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v123 : BitVec 32 := Scalar.muli v2 c8_i32_76
  let v124 : BitVec 32 := Scalar.addi c0_i32_77 v123
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_78 : BitVec 32 := 4#32
  let v125 : BitVec 32 := Scalar.muli v19 c4_i32_78
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v127 : BitVec 32 := Scalar.muli v8 c1_i32_79
  let v128 : BitVec 32 := Scalar.addi v126 v127
  v128.toNat
def k0_dev6 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v137 : BitVec 32 := Scalar.muli v2 c8_i32_85
  let v138 : BitVec 32 := Scalar.addi c0_i32_86 v137
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_87 : BitVec 32 := 4#32
  let v139 : BitVec 32 := Scalar.muli v19 c4_i32_87
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v141 : BitVec 32 := Scalar.muli v8 c1_i32_88
  let v142 : BitVec 32 := Scalar.addi v140 v141
  v142.toNat
def k0_dev7 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v151 : BitVec 32 := Scalar.muli v2 c8_i32_94
  let v152 : BitVec 32 := Scalar.addi c0_i32_95 v151
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_96 : BitVec 32 := 4#32
  let v153 : BitVec 32 := Scalar.muli v19 c4_i32_96
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v155 : BitVec 32 := Scalar.muli v8 c1_i32_97
  let v156 : BitVec 32 := Scalar.addi v154 v155
  v156.toNat
def k0_dev8 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v165 : BitVec 32 := Scalar.muli v2 c8_i32_103
  let v166 : BitVec 32 := Scalar.addi c0_i32_104 v165
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_105 : BitVec 32 := 4#32
  let v167 : BitVec 32 := Scalar.muli v19 c4_i32_105
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v169 : BitVec 32 := Scalar.muli v8 c1_i32_106
  let v170 : BitVec 32 := Scalar.addi v168 v169
  v170.toNat
def k0_dev9 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v179 : BitVec 32 := Scalar.muli v2 c8_i32_111
  let v180 : BitVec 32 := Scalar.addi c0_i32_112 v179
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_113 : BitVec 32 := 4#32
  let v181 : BitVec 32 := Scalar.muli v19 c4_i32_113
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v183 : BitVec 32 := Scalar.muli v8 c1_i32_114
  let v184 : BitVec 32 := Scalar.addi v182 v183
  v184.toNat
def k0_dev10 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v193 : BitVec 32 := Scalar.muli v2 c8_i32_119
  let v194 : BitVec 32 := Scalar.addi c0_i32_120 v193
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_121 : BitVec 32 := 4#32
  let v195 : BitVec 32 := Scalar.muli v19 c4_i32_121
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v197 : BitVec 32 := Scalar.muli v8 c1_i32_122
  let v198 : BitVec 32 := Scalar.addi v196 v197
  v198.toNat
def k0_dev11 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v207 : BitVec 32 := Scalar.muli v2 c8_i32_127
  let v208 : BitVec 32 := Scalar.addi c0_i32_128 v207
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_129 : BitVec 32 := 4#32
  let v209 : BitVec 32 := Scalar.muli v19 c4_i32_129
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v211 : BitVec 32 := Scalar.muli v8 c1_i32_130
  let v212 : BitVec 32 := Scalar.addi v210 v211
  v212.toNat
def k0_off4 (d0 : Dev nD) (c0_i32_133 : BitVec 32) : Fin 2 → Nat :=
  let c2_i32_19 : BitVec 32 := 2#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let v36 : BitVec 32 := Scalar.muli c2_i32_19 v35
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_20 v18
  let v38 : BitVec 32 := Scalar.addi v36 v37
  let c2048_i32_21 : BitVec 32 := 2048#32
  let v39 : BitVec 32 := Scalar.muli v38 c2048_i32_21
  let v220 : BitVec 32 := Scalar.addi v39 c0_i32_133
  let c0_i32_141 : BitVec 32 := 0#32
  ![v220.toNat, 0]
def k0_off5 (d0 : Dev nD) (c0_i32_133 : BitVec 32) : Fin 3 → Nat :=
  let c0_i32_134 : BitVec 32 := 0#32
  let c2_i32_19 : BitVec 32 := 2#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let v36 : BitVec 32 := Scalar.muli c2_i32_19 v35
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_20 v18
  let v38 : BitVec 32 := Scalar.addi v36 v37
  let c2048_i32_21 : BitVec 32 := 2048#32
  let v39 : BitVec 32 := Scalar.muli v38 c2048_i32_21
  let v220 : BitVec 32 := Scalar.addi v39 c0_i32_133
  let c0_i32_142 : BitVec 32 := 0#32
  ![0, v220.toNat, 0]
def k0_dev12 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v221 : BitVec 32 := Scalar.muli v2 c8_i32_137
  let v222 : BitVec 32 := Scalar.addi c0_i32_138 v221
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_139 : BitVec 32 := 4#32
  let v223 : BitVec 32 := Scalar.muli v19 c4_i32_139
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v225 : BitVec 32 := Scalar.muli v8 c1_i32_140
  let v226 : BitVec 32 := Scalar.addi v224 v225
  v226.toNat
def k0_dev13 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v235 : BitVec 32 := Scalar.muli v2 c8_i32_146
  let v236 : BitVec 32 := Scalar.addi c0_i32_147 v235
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_148 : BitVec 32 := 4#32
  let v237 : BitVec 32 := Scalar.muli v19 c4_i32_148
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v239 : BitVec 32 := Scalar.muli v8 c1_i32_149
  let v240 : BitVec 32 := Scalar.addi v238 v239
  v240.toNat
def k0_dev14 (d0 : Dev nD) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v249 : BitVec 32 := Scalar.muli v2 c8_i32_155
  let v250 : BitVec 32 := Scalar.addi c0_i32_156 v249
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_157 : BitVec 32 := 4#32
  let v251 : BitVec 32 := Scalar.muli v19 c4_i32_157
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v253 : BitVec 32 := Scalar.muli v8 c1_i32_158
  let v254 : BitVec 32 := Scalar.addi v252 v253
  v254.toNat
def k0_cond2 (i : grid0.Coords) : BitVec 1 :=
  let arg0 : BitVec 32 := BitVec.ofNat 32 (i 0).val
  let c8_i32_24 : BitVec 32 := 8#32
  let v43 : BitVec 1 := Scalar.cmpi .slt arg0 c8_i32_24
  let v44 : BitVec 32 := Scalar.extui v43
  let c0_i32_25 : BitVec 32 := 0#32
  let v45 : BitVec 1 := Scalar.cmpi .ne v44 c0_i32_25
  v45

def k0_off6 (i : grid0.Coords) : Fin 1 → Nat :=
  let arg0 : BitVec 32 := BitVec.ofNat 32 (i 0).val
  ![arg0.toNat]
def k0_off7 (i : grid0.Coords) (d0 : Dev nD) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c2048_i32 : BitVec 32 := 2048#32
  let v26 : BitVec 32 := Scalar.muli v25 c2048_i32
  let arg0 : BitVec 32 := BitVec.ofNat 32 (i 0).val
  let c256_i32_47 : BitVec 32 := 256#32
  let v89 : BitVec 32 := Scalar.muli arg0 c256_i32_47
  let v90 : BitVec 32 := Scalar.addi v26 v89
  let c0_i32_54 : BitVec 32 := 0#32
  ![v90.toNat, 0]
def k0_off8 (i : grid0.Coords) : Fin 1 → Nat :=
  let arg0 : BitVec 32 := BitVec.ofNat 32 (i 0).val
  ![arg0.toNat]
def k0_dev15 (d0 : Dev nD) : Nat :=
  let c0_i32_60 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_59 : BitVec 32 := 8#32
  let v106 : BitVec 32 := Scalar.muli v20 c8_i32_59
  let v107 : BitVec 32 := Scalar.addi c0_i32_60 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v108 : BitVec 32 := Scalar.muli v5 c4_i32_61
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v110 : BitVec 32 := Scalar.muli v8 c1_i32_62
  let v111 : BitVec 32 := Scalar.addi v109 v110
  v111.toNat
def k0_dev16 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v122 : BitVec 32 := Scalar.muli v2 c8_i32_67
  let v123 : BitVec 32 := Scalar.addi c0_i32_68 v122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v124 : BitVec 32 := Scalar.muli v5 c4_i32_69
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_70 : BitVec 32 := 1#32
  let v126 : BitVec 32 := Scalar.muli v23 c1_i32_70
  let v127 : BitVec 32 := Scalar.addi v125 v126
  v127.toNat
def k0_cond3 (i : grid0.Coords) : BitVec 1 :=
  let arg0 : BitVec 32 := BitVec.ofNat 32 (i 0).val
  let c8_i32_26 : BitVec 32 := 8#32
  let v46 : BitVec 1 := Scalar.cmpi .sge arg0 c8_i32_26
  let c16_i32 : BitVec 32 := 16#32
  let v47 : BitVec 1 := Scalar.cmpi .slt arg0 c16_i32
  let v48 : BitVec 1 := Scalar.andi v46 v47
  let v49 : BitVec 32 := Scalar.extui v48
  let c0_i32_27 : BitVec 32 := 0#32
  let v50 : BitVec 1 := Scalar.cmpi .ne v49 c0_i32_27
  v50

def k0_off9 (i : grid0.Coords) : Fin 1 → Nat :=
  let arg0 : BitVec 32 := BitVec.ofNat 32 (i 0).val
  let c8_i32_47 : BitVec 32 := 8#32
  let v89 : BitVec 32 := Scalar.subi arg0 c8_i32_47
  ![v89.toNat]
def k0_off10 (i : grid0.Coords) (d0 : Dev nD) : Fin 2 → Nat :=
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c2048_i32_14 : BitVec 32 := 2048#32
  let v30 : BitVec 32 := Scalar.muli v29 c2048_i32_14
  let arg0 : BitVec 32 := BitVec.ofNat 32 (i 0).val
  let c8_i32_47 : BitVec 32 := 8#32
  let v89 : BitVec 32 := Scalar.subi arg0 c8_i32_47
  let c256_i32_49 : BitVec 32 := 256#32
  let v92 : BitVec 32 := Scalar.muli v89 c256_i32_49
  let v93 : BitVec 32 := Scalar.addi v30 v92
  let c0_i32_54 : BitVec 32 := 0#32
  ![v93.toNat, 0]
def k0_cond4 (i : grid0.Coords) : BitVec 1 :=
  let arg0 : BitVec 32 := BitVec.ofNat 32 (i 0).val
  let c8_i32_47 : BitVec 32 := 8#32
  let v89 : BitVec 32 := Scalar.subi arg0 c8_i32_47
  let c3_i32 : BitVec 32 := 3#32
  let v104 : BitVec 1 := Scalar.cmpi .sge v89 c3_i32
  let c6_i32 : BitVec 32 := 6#32
  let v105 : BitVec 1 := Scalar.cmpi .slt v89 c6_i32
  let v106 : BitVec 1 := Scalar.andi v104 v105
  let v107 : BitVec 32 := Scalar.extui v106
  let c0_i32_56 : BitVec 32 := 0#32
  let v108 : BitVec 1 := Scalar.cmpi .ne v107 c0_i32_56
  v108

def k0_off11 (i : grid0.Coords) : Fin 1 → Nat :=
  let arg0 : BitVec 32 := BitVec.ofNat 32 (i 0).val
  let c8_i32_47 : BitVec 32 := 8#32
  let v89 : BitVec 32 := Scalar.subi arg0 c8_i32_47
  let c3_i32_57 : BitVec 32 := 3#32
  let v110 : BitVec 32 := Scalar.subi v89 c3_i32_57
  ![v110.toNat]
def k0_off12 (i : grid0.Coords) (d0 : Dev nD) : Fin 2 → Nat :=
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c2048_i32_14 : BitVec 32 := 2048#32
  let v30 : BitVec 32 := Scalar.muli v29 c2048_i32_14
  let c768_i32 : BitVec 32 := 768#32
  let v109 : BitVec 32 := Scalar.addi v30 c768_i32
  let arg0 : BitVec 32 := BitVec.ofNat 32 (i 0).val
  let c8_i32_47 : BitVec 32 := 8#32
  let v89 : BitVec 32 := Scalar.subi arg0 c8_i32_47
  let c3_i32_57 : BitVec 32 := 3#32
  let v110 : BitVec 32 := Scalar.subi v89 c3_i32_57
  let c256_i32_59 : BitVec 32 := 256#32
  let v113 : BitVec 32 := Scalar.muli v110 c256_i32_59
  let v114 : BitVec 32 := Scalar.addi v109 v113
  let c0_i32_64 : BitVec 32 := 0#32
  ![v114.toNat, 0]
def k0_dev17 (d0 : Dev nD) : Nat :=
  let c0_i32_61 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_60 : BitVec 32 := 8#32
  let v115 : BitVec 32 := Scalar.muli v20 c8_i32_60
  let v116 : BitVec 32 := Scalar.addi c0_i32_61 v115
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v117 : BitVec 32 := Scalar.muli v5 c4_i32_62
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v119 : BitVec 32 := Scalar.muli v8 c1_i32_63
  let v120 : BitVec 32 := Scalar.addi v118 v119
  v120.toNat
def k0_cond5 (i : grid0.Coords) : BitVec 1 :=
  let arg0 : BitVec 32 := BitVec.ofNat 32 (i 0).val
  let c16_i32_28 : BitVec 32 := 16#32
  let v51 : BitVec 1 := Scalar.cmpi .sge arg0 c16_i32_28
  let c24_i32 : BitVec 32 := 24#32
  let v52 : BitVec 1 := Scalar.cmpi .slt arg0 c24_i32
  let v53 : BitVec 1 := Scalar.andi v51 v52
  let v54 : BitVec 32 := Scalar.extui v53
  let c0_i32_29 : BitVec 32 := 0#32
  let v55 : BitVec 1 := Scalar.cmpi .ne v54 c0_i32_29
  v55

def k0_off13 (i : grid0.Coords) : Fin 1 → Nat :=
  let arg0 : BitVec 32 := BitVec.ofNat 32 (i 0).val
  let c16_i32_47 : BitVec 32 := 16#32
  let v89 : BitVec 32 := Scalar.subi arg0 c16_i32_47
  ![v89.toNat]
def k0_off14 (i : grid0.Coords) (d0 : Dev nD) : Fin 2 → Nat :=
  let c2_i32_16 : BitVec 32 := 2#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.subi c1_i32_15 v2
  let v32 : BitVec 32 := Scalar.muli c2_i32_16 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.addi v32 v18
  let c2048_i32_17 : BitVec 32 := 2048#32
  let v34 : BitVec 32 := Scalar.muli v33 c2048_i32_17
  let arg0 : BitVec 32 := BitVec.ofNat 32 (i 0).val
  let c16_i32_47 : BitVec 32 := 16#32
  let v89 : BitVec 32 := Scalar.subi arg0 c16_i32_47
  let c256_i32_49 : BitVec 32 := 256#32
  let v92 : BitVec 32 := Scalar.muli v89 c256_i32_49
  let v93 : BitVec 32 := Scalar.addi v34 v92
  let c0_i32_54 : BitVec 32 := 0#32
  ![v93.toNat, 0]
def k0_cond6 (i : grid0.Coords) : BitVec 1 :=
  let arg0 : BitVec 32 := BitVec.ofNat 32 (i 0).val
  let c16_i32_47 : BitVec 32 := 16#32
  let v89 : BitVec 32 := Scalar.subi arg0 c16_i32_47
  let c6_i32 : BitVec 32 := 6#32
  let v104 : BitVec 1 := Scalar.cmpi .sge v89 c6_i32
  let v105 : BitVec 32 := Scalar.extui v104
  let c0_i32_56 : BitVec 32 := 0#32
  let v106 : BitVec 1 := Scalar.cmpi .ne v105 c0_i32_56
  v106

def k0_off15 (i : grid0.Coords) : Fin 1 → Nat :=
  let arg0 : BitVec 32 := BitVec.ofNat 32 (i 0).val
  let c16_i32_47 : BitVec 32 := 16#32
  let v89 : BitVec 32 := Scalar.subi arg0 c16_i32_47
  let c6_i32_57 : BitVec 32 := 6#32
  let v108 : BitVec 32 := Scalar.subi v89 c6_i32_57
  ![v108.toNat]
def k0_off16 (i : grid0.Coords) (d0 : Dev nD) : Fin 2 → Nat :=
  let c2_i32_16 : BitVec 32 := 2#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.subi c1_i32_15 v2
  let v32 : BitVec 32 := Scalar.muli c2_i32_16 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.addi v32 v18
  let c2048_i32_17 : BitVec 32 := 2048#32
  let v34 : BitVec 32 := Scalar.muli v33 c2048_i32_17
  let c1536_i32 : BitVec 32 := 1536#32
  let v107 : BitVec 32 := Scalar.addi v34 c1536_i32
  let arg0 : BitVec 32 := BitVec.ofNat 32 (i 0).val
  let c16_i32_47 : BitVec 32 := 16#32
  let v89 : BitVec 32 := Scalar.subi arg0 c16_i32_47
  let c6_i32_57 : BitVec 32 := 6#32
  let v108 : BitVec 32 := Scalar.subi v89 c6_i32_57
  let c256_i32_59 : BitVec 32 := 256#32
  let v111 : BitVec 32 := Scalar.muli v108 c256_i32_59
  let v112 : BitVec 32 := Scalar.addi v107 v111
  let c0_i32_64 : BitVec 32 := 0#32
  ![v112.toNat, 0]
def k0_dev18 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v113 : BitVec 32 := Scalar.muli v2 c8_i32_60
  let v114 : BitVec 32 := Scalar.addi c0_i32_61 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v115 : BitVec 32 := Scalar.muli v5 c4_i32_62
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_63 : BitVec 32 := 1#32
  let v117 : BitVec 32 := Scalar.muli v23 c1_i32_63
  let v118 : BitVec 32 := Scalar.addi v116 v117
  v118.toNat
def k0_cond7 (i : grid0.Coords) : BitVec 1 :=
  let arg0 : BitVec 32 := BitVec.ofNat 32 (i 0).val
  let c24_i32_30 : BitVec 32 := 24#32
  let v56 : BitVec 1 := Scalar.cmpi .sge arg0 c24_i32_30
  let v57 : BitVec 32 := Scalar.extui v56
  let c0_i32_31 : BitVec 32 := 0#32
  let v58 : BitVec 1 := Scalar.cmpi .ne v57 c0_i32_31
  v58

def k0_cond8 (i : grid0.Coords) : BitVec 1 :=
  let arg0 : BitVec 32 := BitVec.ofNat 32 (i 0).val
  let c24_i32_47 : BitVec 32 := 24#32
  let v89 : BitVec 32 := Scalar.subi arg0 c24_i32_47
  let c3_i32 : BitVec 32 := 3#32
  let v90 : BitVec 1 := Scalar.cmpi .slt v89 c3_i32
  let v91 : BitVec 32 := Scalar.extui v90
  let c0_i32_48 : BitVec 32 := 0#32
  let v92 : BitVec 1 := Scalar.cmpi .ne v91 c0_i32_48
  v92

def k0_off17 (i : grid0.Coords) : Fin 1 → Nat :=
  let c8_i32_54 : BitVec 32 := 8#32
  let arg0 : BitVec 32 := BitVec.ofNat 32 (i 0).val
  let c24_i32_47 : BitVec 32 := 24#32
  let v89 : BitVec 32 := Scalar.subi arg0 c24_i32_47
  let v103 : BitVec 32 := Scalar.addi c8_i32_54 v89
  ![v103.toNat]
def k0_off18 (i : grid0.Coords) (d0 : Dev nD) : Fin 2 → Nat :=
  let c2_i32_19 : BitVec 32 := 2#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let v36 : BitVec 32 := Scalar.muli c2_i32_19 v35
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_20 v18
  let v38 : BitVec 32 := Scalar.addi v36 v37
  let c2048_i32_21 : BitVec 32 := 2048#32
  let v39 : BitVec 32 := Scalar.muli v38 c2048_i32_21
  let arg0 : BitVec 32 := BitVec.ofNat 32 (i 0).val
  let c24_i32_47 : BitVec 32 := 24#32
  let v89 : BitVec 32 := Scalar.subi arg0 c24_i32_47
  let c256_i32_53 : BitVec 32 := 256#32
  let v101 : BitVec 32 := Scalar.muli v89 c256_i32_53
  let v102 : BitVec 32 := Scalar.addi v39 v101
  let c0_i32_61 : BitVec 32 := 0#32
  ![v102.toNat, 0]
def k0_cond9 (i : grid0.Coords) : BitVec 1 :=
  let arg0 : BitVec 32 := BitVec.ofNat 32 (i 0).val
  let c24_i32_47 : BitVec 32 := 24#32
  let v89 : BitVec 32 := Scalar.subi arg0 c24_i32_47
  let c3_i32_49 : BitVec 32 := 3#32
  let v93 : BitVec 1 := Scalar.cmpi .sge v89 c3_i32_49
  let c6_i32 : BitVec 32 := 6#32
  let v94 : BitVec 1 := Scalar.cmpi .slt v89 c6_i32
  let v95 : BitVec 1 := Scalar.andi v93 v94
  let v96 : BitVec 32 := Scalar.extui v95
  let c0_i32_50 : BitVec 32 := 0#32
  let v97 : BitVec 1 := Scalar.cmpi .ne v96 c0_i32_50
  v97

def k0_off19 (i : grid0.Coords) : Fin 1 → Nat :=
  let arg0 : BitVec 32 := BitVec.ofNat 32 (i 0).val
  let c24_i32_47 : BitVec 32 := 24#32
  let v89 : BitVec 32 := Scalar.subi arg0 c24_i32_47
  let c3_i32_53 : BitVec 32 := 3#32
  let v102 : BitVec 32 := Scalar.subi v89 c3_i32_53
  ![v102.toNat]
def k0_off20 (i : grid0.Coords) (d0 : Dev nD) : Fin 2 → Nat :=
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c2048_i32_14 : BitVec 32 := 2048#32
  let v30 : BitVec 32 := Scalar.muli v29 c2048_i32_14
  let c768_i32 : BitVec 32 := 768#32
  let v101 : BitVec 32 := Scalar.addi v30 c768_i32
  let arg0 : BitVec 32 := BitVec.ofNat 32 (i 0).val
  let c24_i32_47 : BitVec 32 := 24#32
  let v89 : BitVec 32 := Scalar.subi arg0 c24_i32_47
  let c3_i32_53 : BitVec 32 := 3#32
  let v102 : BitVec 32 := Scalar.subi v89 c3_i32_53
  let c256_i32_55 : BitVec 32 := 256#32
  let v105 : BitVec 32 := Scalar.muli v102 c256_i32_55
  let v106 : BitVec 32 := Scalar.addi v101 v105
  let c0_i32_60 : BitVec 32 := 0#32
  ![v106.toNat, 0]
def k0_cond10 (i : grid0.Coords) : BitVec 1 :=
  let arg0 : BitVec 32 := BitVec.ofNat 32 (i 0).val
  let c24_i32_47 : BitVec 32 := 24#32
  let v89 : BitVec 32 := Scalar.subi arg0 c24_i32_47
  let c6_i32_51 : BitVec 32 := 6#32
  let v98 : BitVec 1 := Scalar.cmpi .sge v89 c6_i32_51
  let v99 : BitVec 32 := Scalar.extui v98
  let c0_i32_52 : BitVec 32 := 0#32
  let v100 : BitVec 1 := Scalar.cmpi .ne v99 c0_i32_52
  v100

def k0_off21 (i : grid0.Coords) : Fin 1 → Nat :=
  let arg0 : BitVec 32 := BitVec.ofNat 32 (i 0).val
  let c24_i32_47 : BitVec 32 := 24#32
  let v89 : BitVec 32 := Scalar.subi arg0 c24_i32_47
  let c6_i32_53 : BitVec 32 := 6#32
  let v102 : BitVec 32 := Scalar.subi v89 c6_i32_53
  ![v102.toNat]
def k0_off22 (i : grid0.Coords) (d0 : Dev nD) : Fin 2 → Nat :=
  let c2_i32_16 : BitVec 32 := 2#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.subi c1_i32_15 v2
  let v32 : BitVec 32 := Scalar.muli c2_i32_16 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.addi v32 v18
  let c2048_i32_17 : BitVec 32 := 2048#32
  let v34 : BitVec 32 := Scalar.muli v33 c2048_i32_17
  let c1536_i32 : BitVec 32 := 1536#32
  let v101 : BitVec 32 := Scalar.addi v34 c1536_i32
  let arg0 : BitVec 32 := BitVec.ofNat 32 (i 0).val
  let c24_i32_47 : BitVec 32 := 24#32
  let v89 : BitVec 32 := Scalar.subi arg0 c24_i32_47
  let c6_i32_53 : BitVec 32 := 6#32
  let v102 : BitVec 32 := Scalar.subi v89 c6_i32_53
  let c256_i32_55 : BitVec 32 := 256#32
  let v105 : BitVec 32 := Scalar.muli v102 c256_i32_55
  let v106 : BitVec 32 := Scalar.addi v101 v105
  let c0_i32_60 : BitVec 32 := 0#32
  ![v106.toNat, 0]
def k0_off23 (i : grid0.Coords) : Fin 1 → Nat :=
  let arg0 : BitVec 32 := BitVec.ofNat 32 (i 0).val
  let v59 : Index := Scalar.indexCast arg0
  ![v59.toNat]
def k0_off24 (v60 : BitVec 32) : Fin 2 → Nat :=
  let c256_i32 : BitVec 32 := 256#32
  let v61 : BitVec 32 := Scalar.muli v60 c256_i32
  let c0_i32_32 : BitVec 32 := 0#32
  ![v61.toNat, 0]

def k0_chk1 (v60 : BitVec 32) : Prop :=
  (∀ a, (k0_off24 v60) a + S256x2048.size a ≤ S8192x2048.size a)
theorem k0_off24_inb : ∀ (v60 : BitVec 32) (k0_hw1 : k0_chk1 v60), ∀ a, (k0_off24 v60) a + S256x2048.size a ≤ S8192x2048.size a := fun v60 k0_hw1 => k0_hw1

def k0_cond11 (i : grid0.Coords) : BitVec 1 :=
  let arg0 : BitVec 32 := BitVec.ofNat 32 (i 0).val
  let c31_i32 : BitVec 32 := 31#32
  let v86 : BitVec 1 := Scalar.cmpi .eq arg0 c31_i32
  let v87 : BitVec 32 := Scalar.extui v86
  let c0_i32_46 : BitVec 32 := 0#32
  let v88 : BitVec 1 := Scalar.cmpi .ne v87 c0_i32_46
  v88

def k0_off25 (d0 : Dev nD) (c0_i32_47 : BitVec 32) : Fin 3 → Nat :=
  let c0_i32_48 : BitVec 32 := 0#32
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c2048_i32 : BitVec 32 := 2048#32
  let v26 : BitVec 32 := Scalar.muli v25 c2048_i32
  let v89 : BitVec 32 := Scalar.addi v26 c0_i32_47
  let c0_i32_52 : BitVec 32 := 0#32
  ![0, v89.toNat, 0]
def k0_off26 (d0 : Dev nD) (c0_i32_47 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c2048_i32 : BitVec 32 := 2048#32
  let v26 : BitVec 32 := Scalar.muli v25 c2048_i32
  let v89 : BitVec 32 := Scalar.addi v26 c0_i32_47
  let c0_i32_53 : BitVec 32 := 0#32
  ![v89.toNat, 0]
def k0_off27 (d0 : Dev nD) (c0_i32_93 : BitVec 32) : Fin 3 → Nat :=
  let c0_i32_94 : BitVec 32 := 0#32
  let c2_i32_19 : BitVec 32 := 2#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let v36 : BitVec 32 := Scalar.muli c2_i32_19 v35
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_20 v18
  let v38 : BitVec 32 := Scalar.addi v36 v37
  let c2048_i32_21 : BitVec 32 := 2048#32
  let v39 : BitVec 32 := Scalar.muli v38 c2048_i32_21
  let v137 : BitVec 32 := Scalar.addi v39 c0_i32_93
  let c0_i32_98 : BitVec 32 := 0#32
  ![0, v137.toNat, 0]
def k0_off28 (d0 : Dev nD) (c0_i32_93 : BitVec 32) : Fin 2 → Nat :=
  let c2_i32_19 : BitVec 32 := 2#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let v36 : BitVec 32 := Scalar.muli c2_i32_19 v35
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_20 v18
  let v38 : BitVec 32 := Scalar.addi v36 v37
  let c2048_i32_21 : BitVec 32 := 2048#32
  let v39 : BitVec 32 := Scalar.muli v38 c2048_i32_21
  let v137 : BitVec 32 := Scalar.addi v39 c0_i32_93
  let c0_i32_99 : BitVec 32 := 0#32
  ![v137.toNat, 0]
def k0_off29 (d0 : Dev nD) (c0_i32_225 : BitVec 32) : Fin 2 → Nat :=
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c2048_i32_14 : BitVec 32 := 2048#32
  let v30 : BitVec 32 := Scalar.muli v29 c2048_i32_14
  let c768_i32_224 : BitVec 32 := 768#32
  let v251 : BitVec 32 := Scalar.addi v30 c768_i32_224
  let v252 : BitVec 32 := Scalar.addi v251 c0_i32_225
  let c0_i32_230 : BitVec 32 := 0#32
  ![v252.toNat, 0]
def k0_off30 (d0 : Dev nD) (c0_i32_249 : BitVec 32) : Fin 2 → Nat :=
  let c2_i32_16 : BitVec 32 := 2#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.subi c1_i32_15 v2
  let v32 : BitVec 32 := Scalar.muli c2_i32_16 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.addi v32 v18
  let c2048_i32_17 : BitVec 32 := 2048#32
  let v34 : BitVec 32 := Scalar.muli v33 c2048_i32_17
  let c1536_i32_248 : BitVec 32 := 1536#32
  let v272 : BitVec 32 := Scalar.addi v34 c1536_i32_248
  let v273 : BitVec 32 := Scalar.addi v272 c0_i32_249
  let c0_i32_254 : BitVec 32 := 0#32
  ![v273.toNat, 0]
def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Geometry.lean ====
/-
  The geometry of the exchange: sixteen devices in a 2 × 2 × 4 mesh, device number 8x + 4y + z.

  A device receives thirty-two row blocks of 256 rows, block `blk c j` at step `j`, each by one transfer from the neighbour
  `nbr c j`; it also sends thirty-two, transfer `j` to `nbr c j` (the neighbour relation of a step is its own inverse). Everything here is
  finite arithmetic on device and step numbers: the neighbours, the block order, the step a transfer is issued at, whose `partial`
  the received rows come from, and that the kernel's own integer chains compute these numbers.
-/
module

public import proofs.«01_k».proof.Proof.Gen.KernelIdeal
public import proofs.«01_k».proof.Proof.Gen.KernelIdeal.Launch
public import Idealize.ShloMosaic.Lib.Tactic

@[expose] public section

set_option maxRecDepth 16384

noncomputable section

namespace Cert.LnProof

open Cert.KernelIdeal Cert.KernelIdeal.Gen
open Idealize.ShloMosaic Idealize.ShloMosaic.TcCoe

set_option backward.proofsInPublic true

/-! ## Neighbours -/

/-- The device across the y axis, -/
def yn (c : Dev nD) : Dev nD := ⟨8 * (c.val / 8) + (c.val % 8 + 4) % 8, by revert c; decide⟩
/-- across the x axis, -/
def xn (c : Dev nD) : Dev nD := ⟨(c.val + 8) % 16, by revert c; decide⟩
/-- and the other device of its pair along the z axis. -/
def zn (c : Dev nD) : Dev nD := ⟨2 * (c.val / 2) + (c.val % 2 + 1) % 2, by revert c; decide⟩

theorem yn_yn (c : Dev nD) : yn (yn c) = c := by revert c; decide
theorem xn_xn (c : Dev nD) : xn (xn c) = c := by revert c; decide
theorem zn_zn (c : Dev nD) : zn (zn c) = c := by revert c; decide

/-- Steps fed across y, across x, across z. -/
abbrev isY (j : Fin 32) : Prop := j.val < 8 ∨ (24 ≤ j.val ∧ j.val < 27)
abbrev isX (j : Fin 32) : Prop := (16 ≤ j.val ∧ j.val < 24) ∨ (27 ≤ j.val ∧ j.val < 30)
abbrev isZ (j : Fin 32) : Prop := (8 ≤ j.val ∧ j.val < 16) ∨ 30 ≤ j.val

/-- The device that feeds step `j` of `c`, and that `c` feeds at step `j`. -/
def nbr (c : Dev nD) (j : Fin 32) : Dev nD := if isY j then yn c else if isX j then xn c else zn c

theorem nbr_nbr (c : Dev nD) (j : Fin 32) : nbr (nbr c j) j = c := by revert c j; decide +kernel
theorem nbr_y {j : Fin 32} (h : isY j) (c : Dev nD) : nbr c j = yn c := if_pos h
theorem nbr_x {j : Fin 32} (h : isX j) (c : Dev nD) : nbr c j = xn c := by
  unfold nbr; rw [if_neg (by unfold isX at h; unfold isY; omega), if_pos h]
theorem nbr_z {j : Fin 32} (h : isZ j) (c : Dev nD) : nbr c j = zn c := by
  unfold nbr; rw [if_neg (by unfold isZ at h; unfold isY; omega), if_neg (by unfold isZ at h; unfold isX; omega)]

/-- The devices, rearranged by the neighbour relation of step `j`. -/
def nbrEquiv (j : Fin 32) : Dev nD ≃ Dev nD := ⟨fun c => nbr c j, fun c => nbr c j, fun c => nbr_nbr c j, fun c => nbr_nbr c j⟩

/-! ## The block order -/

/-- The quarter of the rows device `c` works on in its steps `8s … 8s + 7`. -/
def quarter (c : Dev nD) (s : ℕ) : ℕ :=
  if s = 0 then 2 * (c.val / 8) + c.val % 2 else if s = 1 then 2 * (c.val / 8) + (1 - c.val % 2)
  else if s = 2 then 2 * (1 - c.val / 8) + c.val % 2 else 2 * (1 - c.val / 8) + (1 - c.val % 2)
/-- The row block of step `j`. -/
def blk (c : Dev nD) (j : Fin 32) : Fin 32 := ⟨8 * quarter c (j.val / 8) + j.val % 8, by revert c j; decide +kernel⟩
/-- The step of row block `b`. -/
def stp (c : Dev nD) (b : Fin 32) : Fin 32 :=
  if b.val / 8 = quarter c 0 then ⟨b.val % 8, by omega⟩ else if b.val / 8 = quarter c 1 then ⟨8 + b.val % 8, by omega⟩
  else if b.val / 8 = quarter c 2 then ⟨16 + b.val % 8, by omega⟩ else ⟨24 + b.val % 8, by omega⟩

theorem stp_blk (c : Dev nD) (j : Fin 32) : stp c (blk c j) = j := by revert c j; decide +kernel
theorem blk_stp (c : Dev nD) (b : Fin 32) : blk c (stp c b) = b := by revert c b; decide +kernel
/-- Steps and blocks, one for one. -/
def blkEquiv (c : Dev nD) : Fin 32 ≃ Fin 32 := ⟨blk c, stp c, stp_blk c, blk_stp c⟩

/-! ## The transfers -/

/-- The step transfer `j` is issued at. -/
def issue (j : Fin 32) : ℕ :=
  if isY j then 0 else if j.val < 16 then j.val - 8 else if j.val < 24 then j.val - 16 else if j.val < 30 then j.val - 16 else j.val - 8

/-- For the transfers forwarding received rows: the step those rows arrived at. -/
def srcStep (j : Fin 32) : Fin 32 := ⟨issue j, by revert j; decide⟩

/-- Transfer `j` forwards the rows of its source step: the sender's block there is the receiver's block of step `j`. -/
theorem blk_nbr_fwd (c : Dev nD) (j : Fin 32) (h : ¬ isY j) : blk (nbr c j) j = blk c (srcStep j) := by
  revert c j; decide +kernel
/-- Across y both devices have the same block order. -/
theorem blk_nbr_y (c : Dev nD) (j : Fin 32) (h : isY j) : blk (nbr c j) j = blk c j := by
  revert c j; decide +kernel

/-- Whose `partial` device `c` receives at step `j`. -/
def origin (c : Dev nD) (j : Fin 32) : Dev nD :=
  if isY j then yn c else if j.val < 16 then yn (zn c) else if j.val < 24 then yn (xn c)
  else if j.val < 30 then yn (zn (xn c)) else yn (xn (zn c))
theorem origin_y (c : Dev nD) (j : Fin 32) (h : isY j) : origin (nbr c j) j = c := by revert c j; decide +kernel
theorem origin_fwd (c : Dev nD) (j : Fin 32) (h : ¬ isY j) : origin (nbr c j) j = origin c (srcStep j) := by
  revert c j; decide +kernel
/-- Always a device of the other y. -/
theorem origin_other (c : Dev nD) (j : Fin 32) : (origin c j).val / 4 % 2 = 1 - c.val / 4 % 2 := by revert c j; decide +kernel

/-- Whose `partial` row block `b` of device `c`'s receive buffer comes from. -/
def rowOrigin (c : Dev nD) (b : Fin 32) : Dev nD := origin c (stp c b)
theorem rowOrigin_blk (c : Dev nD) (j : Fin 32) : rowOrigin c (blk c j) = origin c j := by unfold rowOrigin; rw [stp_blk]

/-! ## The kernel's integer chains -/

theorem dev1 : ∀ c : Dev nD, k0_dev1 c = (yn c).val := by decide +kernel
theorem dev2 : ∀ c : Dev nD, k0_dev2 c = (xn c).val := by decide +kernel
theorem dev3 : ∀ c : Dev nD, k0_dev3 c = (zn c).val := by decide +kernel
theorem dev4 : ∀ c : Dev nD, k0_dev4 c = (yn c).val := by decide +kernel
theorem dev5 : ∀ c : Dev nD, k0_dev5 c = (yn c).val := by decide +kernel
theorem dev6 : ∀ c : Dev nD, k0_dev6 c = (yn c).val := by decide +kernel
theorem dev7 : ∀ c : Dev nD, k0_dev7 c = (yn c).val := by decide +kernel
theorem dev8 : ∀ c : Dev nD, k0_dev8 c = (yn c).val := by decide +kernel
theorem dev9 : ∀ c : Dev nD, k0_dev9 c = (yn c).val := by decide +kernel
theorem dev10 : ∀ c : Dev nD, k0_dev10 c = (yn c).val := by decide +kernel
theorem dev11 : ∀ c : Dev nD, k0_dev11 c = (yn c).val := by decide +kernel
theorem dev12 : ∀ c : Dev nD, k0_dev12 c = (yn c).val := by decide +kernel
theorem dev13 : ∀ c : Dev nD, k0_dev13 c = (yn c).val := by decide +kernel
theorem dev14 : ∀ c : Dev nD, k0_dev14 c = (yn c).val := by decide +kernel
theorem dev15 : ∀ c : Dev nD, k0_dev15 c = (xn c).val := by decide +kernel
theorem dev16 : ∀ c : Dev nD, k0_dev16 c = (zn c).val := by decide +kernel
theorem dev17 : ∀ c : Dev nD, k0_dev17 c = (xn c).val := by decide +kernel
theorem dev18 : ∀ c : Dev nD, k0_dev18 c = (zn c).val := by decide +kernel

/-- A grid point as a step number. -/
abbrev tj (t : Fin grid0.N) : Fin 32 := Fin.cast N_0 t

theorem cond1 : ∀ t : Fin grid0.N, k0_cond1 (grid0.coords t) = 1#1 ↔ t.val = 0 := by decide +kernel
theorem cond2 : ∀ t : Fin grid0.N, k0_cond2 (grid0.coords t) = 1#1 ↔ t.val < 8 := by decide +kernel
theorem cond3 : ∀ t : Fin grid0.N, k0_cond3 (grid0.coords t) = 1#1 ↔ (8 ≤ t.val ∧ t.val < 16) := by decide +kernel
theorem cond4 : ∀ t : Fin grid0.N, (8 ≤ t.val ∧ t.val < 16) → (k0_cond4 (grid0.coords t) = 1#1 ↔ (11 ≤ t.val ∧ t.val < 14)) := by decide +kernel
theorem cond5 : ∀ t : Fin grid0.N, k0_cond5 (grid0.coords t) = 1#1 ↔ (16 ≤ t.val ∧ t.val < 24) := by decide +kernel
theorem cond6 : ∀ t : Fin grid0.N, (16 ≤ t.val ∧ t.val < 24) → (k0_cond6 (grid0.coords t) = 1#1 ↔ 22 ≤ t.val) := by decide +kernel
theorem cond7 : ∀ t : Fin grid0.N, k0_cond7 (grid0.coords t) = 1#1 ↔ 24 ≤ t.val := by decide +kernel
theorem cond8 : ∀ t : Fin grid0.N, 24 ≤ t.val → (k0_cond8 (grid0.coords t) = 1#1 ↔ t.val < 27) := by decide +kernel
theorem cond9 : ∀ t : Fin grid0.N, 24 ≤ t.val → (k0_cond9 (grid0.coords t) = 1#1 ↔ (27 ≤ t.val ∧ t.val < 30)) := by decide +kernel
theorem cond10 : ∀ t : Fin grid0.N, 24 ≤ t.val → (k0_cond10 (grid0.coords t) = 1#1 ↔ 30 ≤ t.val) := by decide +kernel
theorem cond11 : ∀ t : Fin grid0.N, k0_cond11 (grid0.coords t) = 1#1 ↔ t.val = 31 := by decide +kernel

/-- The offset of row block `b` in a two-axis and in a three-axis array. -/
abbrev rowOff (b : Fin 32) : Fin 2 → ℕ := ![256 * b.val, 0]
abbrev rowOff3 (b : Fin 32) : Fin 3 → ℕ := ![0, 256 * b.val, 0]

theorem off2 : ∀ (c : Dev nD) (r : Fin 8), k0_off2 c (BitVec.ofNat 32 (256 * r.val)) = rowOff (blk c ⟨r.val, by omega⟩) := by decide +kernel
theorem off3 : ∀ (c : Dev nD) (r : Fin 8), k0_off3 c (BitVec.ofNat 32 (256 * r.val)) = rowOff3 (blk c ⟨r.val, by omega⟩) := by decide +kernel
theorem off4 : ∀ (c : Dev nD) (r : Fin 3), k0_off4 c (BitVec.ofNat 32 (256 * r.val)) = rowOff (blk c ⟨24 + r.val, by omega⟩) := by decide +kernel
theorem off5 : ∀ (c : Dev nD) (r : Fin 3), k0_off5 c (BitVec.ofNat 32 (256 * r.val)) = rowOff3 (blk c ⟨24 + r.val, by omega⟩) := by decide +kernel
theorem off7 : ∀ (c : Dev nD) (t : Fin grid0.N), t.val < 8 → k0_off7 (grid0.coords t) c = rowOff (blk c (tj t)) := by decide +kernel
theorem off12 : ∀ (c : Dev nD) (t : Fin grid0.N), (11 ≤ t.val ∧ t.val < 14) → k0_off12 (grid0.coords t) c = rowOff (blk c (tj t)) := by decide +kernel
theorem off16 : ∀ (c : Dev nD) (t : Fin grid0.N), (22 ≤ t.val ∧ t.val < 24) → k0_off16 (grid0.coords t) c = rowOff (blk c (tj t)) := by decide +kernel

end Cert.LnProof
-- ==== Proof.Views.lean ====
/-
  The row blocks as views: block `b` of the receive buffer, of a device's own `partial`, the semaphores of transfer `j`, and
  what a landed transfer leaves in the receive buffer, written as one function of the whole buffer.
-/
module

public import proofs.«01_k».proof.Proof.Geometry
public import Idealize.ShloMosaic.Lib.Rounds
public import Idealize.ShloMosaic.Lib.Memref
public import Idealize.ShloMosaic.Lib.ViewIndex
public import Idealize.ShloMosaic.Lib.ValueIdx

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

set_option backward.proofsInPublic true

variable {F : FTy → Type} [FloatOps F]

/-! ## Row blocks -/

theorem rowOff_inb (b : Fin 32) : ∀ a, rowOff b a + S256x2048.size a ≤ S8192x2048.size a :=
  Rect.inb₂ (by show 256 * b.val + 256 ≤ 8192; omega) (by show 0 + 2048 ≤ 2048; omega)
theorem rowOff3_inb (b : Fin 32) : ∀ a, rowOff3 b a + S1x256x2048.size a ≤ S1x8192x2048.size a :=
  Fin.forall_fin_succ.mpr ⟨by show 0 + 1 ≤ 1; omega, Fin.forall_fin_two.mpr ⟨by show 256 * b.val + 256 ≤ 8192; omega, by show 0 + 2048 ≤ 2048; omega⟩⟩

/-- The rectangle of row block `b`. -/
abbrev rowR (b : Fin 32) : Rect S8192x2048 := Rect.unit (s := S8192x2048) (rowOff b) S256x2048.size (rowOff_inb b)
abbrev rowR3 (b : Fin 32) : Rect S1x8192x2048 := Rect.unit (s := S1x8192x2048) (rowOff3 b) S1x256x2048.size (rowOff3_inb b)
/-- Row block `b` of the receive buffer. -/
abbrev rowM (b : Fin 32) : Memref sig .tc .hbm S256x2048 .f32 := (Memref.whole main_v41_1).slice (rowR b) (fun _ => rfl)
/-- Row block `b` of the device's own `partial`. -/
abbrev srcM3 (b : Fin 32) : Memref sig .tc .hbm S1x256x2048 .f32 := (Memref.whole main_arg0).slice (rowR3 b) (fun _ => rfl)
abbrev srcM (b : Fin 32) : Memref sig .tc .hbm S256x2048 .f32 := (srcM3 b).squeeze S256x2048 squeezes_S1x256x2048_S256x2048

theorem mem_rowM (b : Fin 32) (i : S8192x2048.Idx) : i ∈ (rowM b).view.set ↔ (i 0).val / 256 = b.val := by
  show i ∈ ((View.whole main_v41_1).slice (rowR b)).set ↔ _
  rw [View.set_slice_whole]
  have h0 : (i 0).val < 8192 := (i 0).isLt
  have h1 : (i 1).val < 2048 := (i 1).isLt
  refine Rect.mem_set_unit.trans ⟨fun h => ?_, fun h => ?_⟩
  · have := h 0
    have h2 : 256 * b.val ≤ (i 0).val := this.1
    have h3 : (i 0).val < 256 * b.val + 256 := this.2
    omega
  · refine Fin.forall_fin_two.mpr ⟨⟨?_, ?_⟩, ⟨?_, ?_⟩⟩
    · show 256 * b.val ≤ (i 0).val; omega
    · show (i 0).val < 256 * b.val + 256; omega
    · show 0 ≤ (i 1).val; omega
    · show (i 1).val < 0 + 2048; omega

/-- The elements of row block `b` of `partial`. -/
abbrev srcSet (b : Fin 32) : Finset S1x8192x2048.Idx := (srcM b).view.set
theorem srcSet_eq (b : Fin 32) : srcSet b = (rowR3 b).set :=
  (View.set_reshape _ _).trans (View.set_slice_whole main_arg0 (rowR3 b))

theorem mem_srcM (b : Fin 32) (i : S1x8192x2048.Idx) : i ∈ srcSet b ↔ (i 1).val / 256 = b.val := by
  rw [srcSet_eq]
  have hz : (i 0).val < 1 := (i 0).isLt
  have h0 : (i 1).val < 8192 := (i 1).isLt
  have h1 : (i 2).val < 2048 := (i 2).isLt
  refine Rect.mem_set_unit.trans ⟨fun h => ?_, fun h => ?_⟩
  · have := h 1
    have h2 : 256 * b.val ≤ (i 1).val := this.1
    have h3 : (i 1).val < 256 * b.val + 256 := this.2
    omega
  · refine Fin.forall_fin_succ.mpr ⟨⟨?_, ?_⟩, Fin.forall_fin_two.mpr ⟨⟨?_, ?_⟩, ⟨?_, ?_⟩⟩⟩
    · show 0 ≤ (i 0).val; omega
    · show (i 0).val < 0 + 1; omega
    · show 256 * b.val ≤ (i 1).val; omega
    · show (i 1).val < 256 * b.val + 256; omega
    · show 0 ≤ (i 2).val; omega
    · show (i 2).val < 0 + 2048; omega

theorem rowM_emb (b : Fin 32) (y : S256x2048.Idx) :
    (((rowM b).view.emb y : S8192x2048.Idx) 0).val = 256 * b.val + (y 0).val ∧ (((rowM b).view.emb y : S8192x2048.Idx) 1).val = (y 1).val := by
  constructor
  · show 256 * b.val + 1 * (y 0).val = _; omega
  · show 0 + 1 * (y 1).val = _; omega

theorem srcM_emb (b : Fin 32) (y : S256x2048.Idx) :
    (((srcM b).view.emb y : S1x8192x2048.Idx) 1).val = 256 * b.val + (y 0).val ∧ (((srcM b).view.emb y : S1x8192x2048.Idx) 2).val = (y 1).val := by
  have e : (srcM b).view.emb y = (rowR3 b).emb (Fin.cons ⟨0, Nat.one_pos⟩ y) := by
    show (rowR3 b).emb (Shape.reshapeEquiv _ y) = _
    congr 1
    exact Shape.reshapeEquiv_cons_one _ y
  rw [e]
  constructor
  · show 256 * b.val + 1 * (y 0).val = _; omega
  · show 0 + 1 * (y 1).val = _; omega

/-- The row blocks are disjoint, -/
theorem rowM_disjoint {b b' : Fin 32} (h : b ≠ b') : Disjoint (rowM b).view.set (rowM b').view.set :=
  Finset.disjoint_left.mpr fun i hi hi' => h (Fin.ext (((mem_rowM b i).mp hi).symm.trans ((mem_rowM b' i).mp hi')))
theorem srcM_disjoint {b b' : Fin 32} (h : b ≠ b') : Disjoint (srcSet b) (srcSet b') :=
  Finset.disjoint_left.mpr fun i hi hi' => h (Fin.ext (((mem_srcM b i).mp hi).symm.trans ((mem_srcM b' i).mp hi')))
/-- and cover the buffer. -/
theorem rowM_cover : (Finset.univ : Finset S8192x2048.Idx) = (Finset.univ : Finset (Fin 32)).biUnion fun b => (rowM b).view.set := by
  ext i
  have h0 : (i 0).val < 8192 := (i 0).isLt
  have hb : (i 0).val / 256 < 32 := by omega
  have hm := (mem_rowM ⟨(i 0).val / 256, hb⟩ i).mpr (Eq.refl _)
  exact ⟨fun _ => Finset.mem_biUnion.mpr ⟨⟨(i 0).val / 256, hb⟩, Finset.mem_univ _, hm⟩, fun _ => Finset.mem_univ _⟩
theorem srcM_cover : (Finset.univ : Finset S1x8192x2048.Idx) = (Finset.univ : Finset (Fin 32)).biUnion fun b => srcSet b := by
  ext i
  have h0 : (i 1).val < 8192 := (i 1).isLt
  have hb : (i 1).val / 256 < 32 := by omega
  have hm := (mem_srcM ⟨(i 1).val / 256, hb⟩ i).mpr (Eq.refl _)
  exact ⟨fun _ => Finset.mem_biUnion.mpr ⟨⟨(i 1).val / 256, hb⟩, Finset.mem_univ _, hm⟩, fun _ => Finset.mem_univ _⟩

/-! ## The contents of the receive buffer -/

/-- Contents of `partial` and of the receive buffer. -/
abbrev PVal (F : FTy → Type) : Type := S1x8192x2048.Idx → F .f32
abbrev RVal (F : FTy → Type) : Type := S8192x2048.Idx → F .f32

/-- The receive buffer once everything has landed: row `r` is row `r` of `partial` on the device the row's block comes from. -/
def recvVal (P : Dev nD → PVal F) (c : Dev nD) : RVal F := fun i =>
  P (rowOrigin c ⟨(i 0).val / 256, by have h0 : (i 0).val < 8192 := (i 0).isLt; omega⟩) (ix3 (⟨0, Nat.one_pos⟩ : Fin 1) (i 0) (i 1))

/-- A transfer out of `partial`, into the block of its step. -/
theorem landed_y (P : Dev nD → PVal F) (c : Dev nD) (j : Fin 32) (h : isY j) (fd : RVal F) :
    ∀ i ∈ (rowM (blk c j)).view.set,
      (rowM (blk c j)).view.write (Elt F) fd ((srcM (blk c j)).view.read (Elt F) (P c)) Finset.univ i = recvVal P (nbr c j) i := by
  intro i hi
  obtain ⟨y, -, rfl⟩ := Finset.mem_map.mp hi
  rw [View.write_emb_of_mem _ _ (Finset.mem_univ y)]
  have hr := rowM_emb (blk c j) y
  have hs := srcM_emb (blk c j) y
  have hb : (⟨(((rowM (blk c j)).view.emb y : S8192x2048.Idx) 0).val / 256, by rw [hr.1]; have := (y 0).isLt; have h2 : (y 0).val < 256 := this; omega⟩ : Fin 32) = blk (nbr c j) j := by
    rw [blk_nbr_y c j h]; apply Fin.ext; show (((rowM (blk c j)).view.emb y : S8192x2048.Idx) 0).val / 256 = _
    rw [hr.1]; have h2 : (y 0).val < 256 := (y 0).isLt; omega
  show P c ((srcM (blk c j)).view.emb y) = P (rowOrigin (nbr c j) _) _
  rw [hb, rowOrigin_blk, origin_y c j h]
  congr 1
  refine Shape.idx3_ext ?_ ?_ ?_
  · have h1 : (((srcM (blk c j)).view.emb y : S1x8192x2048.Idx) 0).val < 1 := (((srcM (blk c j)).view.emb y : S1x8192x2048.Idx) 0).isLt
    show _ = 0; omega
  · rw [hs.1]; exact hr.1.symm
  · rw [hs.2]; exact hr.2.symm

/-- A transfer of received rows into the same rows of a neighbour's buffer. -/
theorem landed_fwd (P : Dev nD → PVal F) (c : Dev nD) (j : Fin 32) (h : ¬ isY j) (fd : RVal F) :
    ∀ i ∈ (rowM (blk (nbr c j) j)).view.set,
      (rowM (blk (nbr c j) j)).view.write (Elt F) fd ((rowM (blk (nbr c j) j)).view.read (Elt F) (recvVal P c)) Finset.univ i = recvVal P (nbr c j) i := by
  intro i hi
  obtain ⟨y, -, rfl⟩ := Finset.mem_map.mp hi
  rw [View.write_emb_of_mem _ _ (Finset.mem_univ y)]
  have hr := rowM_emb (blk (nbr c j) j) y
  show recvVal P c ((rowM (blk (nbr c j) j)).view.emb y) = _
  unfold recvVal
  have hb : (⟨(((rowM (blk (nbr c j) j)).view.emb y : S8192x2048.Idx) 0).val / 256, by rw [hr.1]; have h2 : (y 0).val < 256 := (y 0).isLt; omega⟩ : Fin 32) = blk (nbr c j) j := by
    apply Fin.ext; show (((rowM (blk (nbr c j) j)).view.emb y : S8192x2048.Idx) 0).val / 256 = _
    rw [hr.1]; have h2 : (y 0).val < 256 := (y 0).isLt; omega
  rw [hb, rowOrigin_blk, origin_fwd c j h, blk_nbr_fwd c j h, rowOrigin_blk]

/-! ## The semaphores of transfer `j` -/

/-- The semaphore transfer `j` completes on at the sender, -/
def sSem (j : Fin 32) : DmaSem sig :=
  ⟨if j.val < 8 then 7 + j.val else if j.val < 16 then 37 + j.val else if j.val < 24 then 13 + j.val else if j.val < 27 then j.val - 9
    else if j.val < 30 then 34 + j.val else 37 + j.val, by revert j; decide⟩
/-- and at the receiver. -/
def rSem (j : Fin 32) : DmaSem sig :=
  ⟨if j.val < 8 then 18 + j.val else if j.val < 16 then 45 + j.val else if j.val < 24 then 21 + j.val else if j.val < 27 then 2 + j.val
    else if j.val < 30 then 37 + j.val else 39 + j.val, by revert j; decide⟩

theorem sSem_inj : Function.Injective sSem := by decide +kernel
theorem rSem_inj : Function.Injective rSem := by decide +kernel
theorem sSem_ne_rSem : ∀ j j', sSem j ≠ rSem j' := by decide +kernel

/-- One semaphore picked out of a consecutive array. -/
theorem sem_pick {n N b : ℕ} (h : b + (⟨1, ![n]⟩ : Shape).numel ≤ N) (off : Fin 1 → ℕ) (inb : ∀ a, off a + S1.size a ≤ (⟨1, ![n]⟩ : Shape).size a) :
    ((((SemArray.consecutive (n := N) b ⟨1, ![n]⟩ h).slice (Rect.unit (s := ⟨1, ![n]⟩) off S1.size inb)).squeeze S_ squeezes_S1_S_).sem).val = b + off 0 := by
  show b + ((⟨1, ![n]⟩ : Shape).rowMajor ((Rect.unit (s := ⟨1, ![n]⟩) off S1.size inb).emb _)).val = _
  rw [Shape.rowMajor_val_one, Rect.emb_apply]
  have key : ∀ z : S1.Idx, b + (off 0 + 1 * (z 0).val) = b + off 0 := fun z => by
    have : (z 0).val < 1 := (z 0).isLt
    omega
  exact key (Shape.reshapeEquiv squeezes_S1_S_.numel_eq fun i => i.elim0)

end Cert.LnProof
-- ==== Proof.Sched.lean ====
/-
  Who waits for what: every device's entry cell (the barrier semaphore) and the two semaphores of each of its thirty-two transfers,
  what each of them hands over, the order of the waits, and what a device owes.

  A device enters by telling its three neighbours that it has arrived; with that word it hands each neighbour the row blocks of its
  receive buffer that this neighbour is to fill. A transfer's receiving semaphore hands its receiver the filled block. The sending
  semaphore hands nothing back: the rows sent are never written again.
-/
module

public import proofs.«01_k».proof.Proof.Views
public import Idealize.ShloMosaic.Lib.Transfers

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

/-! ## The ghost state -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds, -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- and the record of the local copy in flight. -/
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))

instance ER_lands : (ER (F := F)).LandsIn (upEmb : UEmb _ 𝕄) := by unfold ER; infer_instance
instance EC_lands : (EC (F := F)).LandsIn (upEmb : UEmb _ 𝕄) := by unfold EC; infer_instance

/-! ## The cells -/

/-- Transfer `j`'s kind: across y, x or z. -/
def kd (j : Fin 32) : Fin 3 := if isY j then 0 else if isX j then 1 else 2
/-- The neighbour of each kind. -/
def dn (c : Dev nD) : Fin 3 → Dev nD := fun | 0 => yn c | 1 => xn c | 2 => zn c
theorem dn_dn (c : Dev nD) (d : Fin 3) : dn (dn c d) d = c := by revert c d; decide +kernel
theorem nbr_kd (c : Dev nD) (j : Fin 32) : nbr c j = dn c (kd j) := by revert c j; decide +kernel
/-- The devices, rearranged by one neighbour relation. -/
def dnEquiv (d : Fin 3) : Dev nD ≃ Dev nD := ⟨fun c => dn c d, fun c => dn c d, fun c => dn_dn c d, fun c => dn_dn c d⟩

abbrev barS : Sems sig S_ := SemArray.scalar (sig.barrier 0 rfl)
abbrev bCell (c : Dev nD) : GSem nD τ sig := ((c : Thread nD τ), .reg barS.sem)
abbrev sCell (c : Dev nD) (j : Fin 32) : GSem nD τ sig := ((c : Thread nD τ), .dma (sSem j))
abbrev rCell (c : Dev nD) (j : Fin 32) : GSem nD τ sig := ((c : Thread nD τ), .dma (rSem j))

/-- What one transfer of 256 rows adds to its semaphores. -/
def N : ℕ := (rowM 0).view.dmaCredit
theorem N_pos : 0 < N := View.dmaCredit_pos _ (by decide)
theorem rowM_credit (b : Fin 32) : (rowM b).view.dmaCredit = N := rfl
theorem srcM_credit (b : Fin 32) : (srcM b).view.dmaCredit = N := rfl

/-! ## What the cells hand over -/

section Pay
variable (P : Dev nD → PVal F)

/-- Row block `b` of device `c`'s receive buffer, holding `f`. -/
def rowPts (c : Dev nD) (b : Fin 32) (q : PosShare TreeShare) (f : RVal F) : sProp 𝕄 :=
  (rowM b).view.loc (c : Thread nD τ) ↦[(rowM b).view.set]{q} f
/-- Row block `b` of device `c`'s `partial`. -/
def srcPts (c : Dev nD) (b : Fin 32) (q : PosShare TreeShare) : sProp 𝕄 :=
  (srcM b).view.loc (c : Thread nD τ) ↦[(srcM b).view.set]{q} P c

/-- Device `c`'s own block of step `j`, whatever it holds, and that its receiving semaphore is ready. -/
def Own (c : Dev nD) (j : Fin 32) : sProp 𝕄 := iprop((∃ f, rowPts c (blk c j) fullShare f) ∗ reached ER (rCell c j) 0)
/-- What the neighbour of kind `d` hands `c` on arriving. -/
def barPay (c : Dev nD) (d : Fin 3) : sProp 𝕄 :=
  bigSep Finset.univ fun j : Fin 32 => if kd j = d then Own (nbr c j) j else iprop(emp)
/-- What transfer `j` hands its receiver `c`. -/
def rPay (c : Dev nD) (j : Fin 32) : sProp 𝕄 := rowPts c (blk c j) fullShare (recvVal P c)

instance rowPts_storable (c : Dev nD) (b : Fin 32) (q) (f : RVal F) : BI.Storable (upEmb : UEmb _ 𝕄) (rowPts c b q f) := by
  unfold rowPts; infer_instance
instance Own_storable (c : Dev nD) (j : Fin 32) : BI.Storable (upEmb : UEmb _ 𝕄) (Own (F := F) c j) := by
  unfold Own; infer_instance
instance barPay_storable (c : Dev nD) (d : Fin 3) : BI.Storable (upEmb : UEmb _ 𝕄) (barPay (F := F) c d) := by
  unfold barPay
  have : ∀ j : Fin 32, BI.Storable (upEmb : UEmb _ 𝕄) (if kd j = d then Own (F := F) (nbr c j) j else iprop(emp)) := fun j => by
    split <;> infer_instance
  infer_instance
instance rPay_storable (c : Dev nD) (j : Fin 32) : BI.Storable (upEmb : UEmb _ 𝕄) (rPay P c j) := by unfold rPay; infer_instance

/-! ## The schedule -/

/-- One of the semaphores of the exchange. -/
def IsX (s : SemLoc sig) : Prop := (∃ j, s = .dma (sSem j)) ∨ ∃ j, s = .dma (rSem j)

open Classical in
def Rd : Rounds.Schedule (GSem nD τ sig) (Fin 3) 𝕄 where
  duties g r := if r = 0 ∧ g.1.2 = .tc then (if g.2 = .reg barS.sem then Finset.univ else if IsX g.2 then {0} else ∅) else ∅
  unitless _ := False
  amount g _ _ := if g.2 = .reg barS.sem then 1 else N
  payload g _ d :=
    if g.2 = .reg barS.sem then barPay g.1.1 d
    else if h : ∃ j, g.2 = .dma (rSem j) then rPay P g.1.1 h.choose
    else iprop(emp)
  amount_pos g _ _ _ := by
    by_cases h : g.2 = .reg barS.sem
    · rw [if_pos h]; exact Nat.one_pos
    · rw [if_neg h]; exact N_pos

instance Rd_storable (g : GSem nD τ sig) (r : ℕ) (d : Fin 3) : BI.Storable (upEmb : UEmb _ 𝕄) ((Rd P).payload g r d) := by
  dsimp only [Rd]
  (repeat' split) <;> infer_instance

section Sched
variable (c : Dev nD) (j : Fin 32)

theorem s_ne_bar : (SemLoc.dma (sSem j) : SemLoc sig) ≠ .reg barS.sem := fun h => by cases h
theorem r_ne_bar : (SemLoc.dma (rSem j) : SemLoc sig) ≠ .reg barS.sem := fun h => by cases h

theorem duties_bar : (Rd P).duties (bCell c) 0 = Finset.univ := by
  dsimp only [Rd]; rw [if_pos ⟨Eq.refl _, Eq.refl _⟩]; exact if_pos (Eq.refl _)
theorem duties_s : (Rd P).duties (sCell c j) 0 = {0} := by
  dsimp only [Rd]; rw [if_pos ⟨Eq.refl _, Eq.refl _⟩, if_neg (s_ne_bar j)]; exact if_pos (.inl ⟨j, rfl⟩)
theorem duties_r : (Rd P).duties (rCell c j) 0 = {0} := by
  dsimp only [Rd]; rw [if_pos ⟨Eq.refl _, Eq.refl _⟩, if_neg (r_ne_bar j)]; exact if_pos (.inr ⟨j, rfl⟩)
theorem duties_later (g : GSem nD τ sig) : ∀ r, 1 ≤ r → (Rd P).duties g r = ∅ :=
  fun r hr => by dsimp only [Rd]; exact if_neg fun h => by omega

theorem amount_bar (d : Fin 3) : (Rd P).amount (bCell c) 0 d = 1 := by dsimp only [Rd]; exact if_pos (Eq.refl _)
theorem amount_s (d : Fin 3) : (Rd P).amount (sCell c j) 0 d = N := by dsimp only [Rd]; exact if_neg (s_ne_bar j)
theorem amount_r (d : Fin 3) : (Rd P).amount (rCell c j) 0 d = N := by dsimp only [Rd]; exact if_neg (r_ne_bar j)

theorem expect_bar : (Rd P).expect (bCell c) 0 = 3 := by
  unfold Schedule.expect Schedule.amountOf
  rw [duties_bar, Finset.sum_congr rfl fun d _ => amount_bar P c d]; rfl
theorem expect_s : (Rd P).expect (sCell c j) 0 = N := by
  unfold Schedule.expect Schedule.amountOf; rw [duties_s, Finset.sum_singleton, amount_s]
theorem expect_r : (Rd P).expect (rCell c j) 0 = N := by
  unfold Schedule.expect Schedule.amountOf; rw [duties_r, Finset.sum_singleton, amount_r]

theorem payload_bar (d : Fin 3) : (Rd P).payload (bCell c) 0 d = barPay (F := F) c d := by dsimp only [Rd]; exact if_pos (Eq.refl _)
theorem payload_s (d : Fin 3) : (Rd P).payload (sCell c j) 0 d = iprop(emp) := by
  dsimp only [Rd]; rw [if_neg (s_ne_bar j), dif_neg]
  rintro ⟨j', h⟩
  exact sSem_ne_rSem j j' (by injection h)
theorem payload_r (d : Fin 3) : (Rd P).payload (rCell c j) 0 d = rPay P c j := by
  have h : ∃ j', (SemLoc.dma (rSem j) : SemLoc sig) = .dma (rSem j') := ⟨j, rfl⟩
  dsimp only [Rd]; rw [if_neg (r_ne_bar j), dif_pos h]
  have e : h.choose = j := by
    have := h.choose_spec
    exact (rSem_inj (by injection this)).symm
  rw [e]

theorem rest_bar : bigSep ((Rd P).duties (bCell c) 0 \ ∅) (fun d => (Rd P).payload (bCell c) 0 d) = bigSep Finset.univ (barPay (F := F) c) := by
  rw [Finset.sdiff_empty, duties_bar]; exact bigSep_congr fun d _ => payload_bar P c d
theorem rest_r : bigSep ((Rd P).duties (rCell c j) 0 \ ∅) (fun d => (Rd P).payload (rCell c j) 0 d) = rPay P c j := by
  rw [Finset.sdiff_empty, duties_r, bigSep_singleton, payload_r]

end Sched

end Pay

/-! ## Levels and debts -/

/-- The level of a transfer's receiving semaphore: first the rows across y, then their forwards, then the forwards of forwards. -/
def lev (q : ℕ) : ℕ :=
  if 18 ≤ q ∧ q < 29 then 2 else if (37 ≤ q ∧ q < 45) ∨ (53 ≤ q ∧ q < 61) then 3 else if (64 ≤ q ∧ q < 67) ∨ (69 ≤ q ∧ q < 71) then 4 else 0
def L (g : GSem nD τ sig) : Finset Unit := if g.1.2 = .tc then {()} else ∅
def lv (g : GSem nD τ sig) (_ : Unit) : ℕ := match g.2 with
  | .dma q => lev q.val
  | _ => 1
theorem L_of_ne (g : GSem nD τ sig) (h : g.1.2 ≠ .tc) : L g = ∅ := if_neg h
theorem L_tc (c : Dev nD) (sm : SemLoc sig) : L ((c : Thread nD τ), sm) = {()} := if_pos rfl

/-- The level of transfer `j`. -/
def jlev (j : Fin 32) : ℕ := lev (rSem j).val
theorem jlev_pos (j : Fin 32) : 2 ≤ jlev j := by revert j; decide +kernel

/-- What `c` owes while the transfers `D` are still to be made. -/
def Ow (c : Dev nD) (D : Finset (Fin 32)) : CellTallies nD τ sig Unit := ∑ j ∈ D, tallyAt (rCell (nbr c j) j) () N
/-- What `c` owes while it has still to greet the neighbours of kinds `D`. -/
def Ob (c : Dev nD) (D : Finset (Fin 3)) : CellTallies nD τ sig Unit := ∑ d ∈ D, tallyAt (bCell (dn c d)) () 1
/-- The forwards still to be made before step `t`. -/
def Fset (t : ℕ) : Finset (Fin 32) := Finset.univ.filter fun j => ¬ isY j ∧ t ≤ issue j

theorem Ow_take (c : Dev nD) {D : Finset (Fin 32)} {j : Fin 32} (h : j ∈ D) : Ow c D = Ow c (D.erase j) + tallyAt (rCell (nbr c j) j) () N :=
  (Finset.sum_erase_add D _ h).symm
theorem Ob_take (c : Dev nD) {D : Finset (Fin 3)} {d : Fin 3} (h : d ∈ D) : Ob c D = Ob c (D.erase d) + tallyAt (bCell (dn c d)) () 1 :=
  (Finset.sum_erase_add D _ h).symm
theorem Ow_empty (c : Dev nD) : Ow c ∅ = 0 := rfl
theorem Ob_empty (c : Dev nD) : Ob c ∅ = 0 := rfl
theorem issue_lt : ∀ j : Fin 32, issue j < 24 := by decide
theorem Fset_late {t : ℕ} (h : 24 ≤ t) : Fset t = ∅ :=
  Finset.filter_false_of_mem fun j _ hj => by have := issue_lt j; omega

theorem Ow_pos {c : Dev nD} {D : Finset (Fin 32)} {g : GSem nD τ sig} {u : Unit} (h : 0 < Ow c D g u) : ∃ j ∈ D, g = rCell (nbr c j) j := by
  by_contra hn
  have : Ow c D g u = 0 := by
    unfold Ow; rw [Finset.sum_apply, Finsupp.finset_sum_apply]
    refine Finset.sum_eq_zero fun j hj => ?_
    rw [tallyAt_apply, if_neg fun h' => hn ⟨j, hj, h'.1⟩]
  omega
theorem Ob_pos {c : Dev nD} {D : Finset (Fin 3)} {g : GSem nD τ sig} {u : Unit} (h : 0 < Ob c D g u) : ∃ d ∈ D, g = bCell (dn c d) := by
  by_contra hn
  have : Ob c D g u = 0 := by
    unfold Ob; rw [Finset.sum_apply, Finsupp.finset_sum_apply]
    refine Finset.sum_eq_zero fun j hj => ?_
    rw [tallyAt_apply, if_neg fun h' => hn ⟨j, hj, h'.1⟩]
  omega

/-- Waiting on a DMA semaphore while every transfer still to be made is of a higher level. -/
theorem mayWait_dma (c : Dev nD) (q : DmaSem sig) (D : Finset (Fin 32)) (h : ∀ j ∈ D, lev q.val < jlev j) :
    (levAts L lv : sProp 𝕄) ⊢ MayWait (c : Thread nD τ) (.dma q) () (Ow c D) :=
  MayOwe.of_cut (L := L) (lev := lv) (lev q.val) (fun p hp => by rw [Finset.mem_singleton.mp hp, L_tc]; exact Finset.mem_singleton_self _)
    (fun g u hg => by obtain ⟨j, -, rfl⟩ := Ow_pos hg; exact Finset.mem_singleton_self _)
    (fun p hp => by rw [Finset.mem_singleton.mp hp]; exact le_rfl)
    (fun g u hg => by obtain ⟨j, hj, rfl⟩ := Ow_pos hg; exact h j hj)

/-- Waiting for the neighbours before any transfer is made. -/
theorem mayWait_bar (c : Dev nD) (D : Finset (Fin 32)) : (levAts L lv : sProp 𝕄) ⊢ MayWait (c : Thread nD τ) (.reg barS.sem) () (Ow c D) :=
  MayOwe.of_cut (L := L) (lev := lv) 1 (fun p hp => by rw [Finset.mem_singleton.mp hp, L_tc]; exact Finset.mem_singleton_self _)
    (fun g u hg => by obtain ⟨j, -, rfl⟩ := Ow_pos hg; exact Finset.mem_singleton_self _)
    (fun p hp => by rw [Finset.mem_singleton.mp hp]; exact le_rfl)
    (fun g u hg => by obtain ⟨j, hj, rfl⟩ := Ow_pos hg; exact jlev_pos j)

/-- The pipeline's waits, at any point. -/
theorem mayWait_stage (c : Dev nD) (q : DmaSem sig) (hq : lev q.val = 0) (D : Finset (Fin 32)) (B : Finset (Fin 3)) :
    (levAts L lv : sProp 𝕄) ⊢ MayWait (c : Thread nD τ) (.dma q) () (Ow c D + Ob c B) := by
  have key : ∀ {g : GSem nD τ sig} {u : Unit}, 0 < (Ow c D + Ob c B) g u → (∃ j ∈ D, g = rCell (nbr c j) j) ∨ ∃ d ∈ B, g = bCell (dn c d) := by
    intro g u h
    rw [Pi.add_apply, Finsupp.add_apply] at h
    rcases Nat.eq_zero_or_pos (Ow c D g u) with h0 | h0
    · rw [h0, Nat.zero_add] at h; exact .inr (Ob_pos h)
    · exact .inl (Ow_pos h0)
  refine MayOwe.of_cut (L := L) (lev := lv) 0 (fun p hp => by rw [Finset.mem_singleton.mp hp, L_tc]; exact Finset.mem_singleton_self _)
    (fun g u hg => by rcases key hg with ⟨j, -, rfl⟩ | ⟨d, -, rfl⟩ <;> exact Finset.mem_singleton_self _)
    (fun p hp => by rw [Finset.mem_singleton.mp hp]; exact hq.le)
    (fun g u hg => ?_)
  rcases key hg with ⟨j, -, rfl⟩ | ⟨d, -, rfl⟩
  · exact (Nat.zero_lt_two.trans_le (jlev_pos j))
  · exact Nat.one_pos

/-- What transfer `j`'s wait finds still to be made is of a higher level. -/
theorem wait_levels (t : Fin 32) : ∀ j ∈ Fset t.val, jlev t < jlev j := by revert t; decide +kernel

end Cert.LnProof
-- ==== Proof.Ops.lean ====
/-
  The steps of the exchange, one rule each: greeting a neighbour, waiting for the three neighbours, making a transfer out of
  `partial` or out of received rows, waiting for a transfer to arrive, waiting for a transfer to have left.
-/
module

public import proofs.«01_k».proof.Proof.Sched

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

abbrev 𝒱₀ : Variants := Variants.none

/-- Among thirty-two resources, those of `D` still in their first form: one of them may be taken out and put back in its second form. -/
theorem swap (Φ Ψ : Fin 32 → sProp 𝕄) {D : Finset (Fin 32)} {j : Fin 32} (h : j ∈ D) :
    bigSep Finset.univ (fun i => if i ∈ D then Φ i else Ψ i)
      ⊢ iprop(Φ j ∗ (Ψ j -∗ bigSep Finset.univ (fun i => if i ∈ D.erase j then Φ i else Ψ i))) := by
  rw [bigSep_univ_at (fun i => if i ∈ D then Φ i else Ψ i) j, bigSep_univ_at (fun i => if i ∈ D.erase j then Φ i else Ψ i) j,
    if_pos h, if_neg (Finset.notMem_erase j D),
    bigSep_congr (Φ := fun i => if i ∈ D.erase j then Φ i else Ψ i) (Ψ := fun i => if i ∈ D then Φ i else Ψ i)
      (s := Finset.univ.erase j) fun i hi => by
        have : (i ∈ D.erase j) = (i ∈ D) := propext (by rw [Finset.mem_erase]; exact and_iff_right (Finset.ne_of_mem_erase hi))
        simp only [this]]
  iintro ⟨H, HR⟩
  isplitl [H]; · iexact H
  iintro H'
  isplitl [H'] <;> iassumption

variable (P : Dev nD → PVal F) (κ : GSem nD τ sig → ℕ)

/-! ## What holds throughout -/

def barCells : Finset (GSem nD τ sig) := Finset.univ.image bCell
def xCells : Finset (GSem nD τ sig) := Finset.univ.image fun x : (Dev nD × Fin 32) × Bool => if x.2 then sCell x.1.1 x.1.2 else rCell x.1.1 x.1.2
theorem mem_bar (c : Dev nD) : bCell c ∈ barCells ∪ xCells := Finset.mem_union_left _ (Finset.mem_image_of_mem _ (Finset.mem_univ _))
theorem mem_s (c : Dev nD) (j : Fin 32) : sCell c j ∈ barCells ∪ xCells :=
  Finset.mem_union_right _ (Finset.mem_image.mpr ⟨((c, j), true), Finset.mem_univ _, if_pos rfl⟩)
theorem mem_r (c : Dev nD) (j : Fin 32) : rCell c j ∈ barCells ∪ xCells :=
  Finset.mem_union_right _ (Finset.mem_image.mpr ⟨((c, j), false), Finset.mem_univ _, if_neg Bool.false_ne_true⟩)

/-- The cells' records, and the levels. -/
def Inv : sProp 𝕄 := iprop((bigSep (barCells ∪ xCells) fun g => cellInv ER (Rd P) (κ g) g) ∗ levAts L lv)
instance Inv_persistent : BI.Persistent (Inv P κ) := by unfold Inv; infer_instance
theorem Inv_cell {g : GSem nD τ sig} (h : g ∈ barCells ∪ xCells) : Inv P κ ⊢ cellInv ER (Rd P) (κ g) g := by
  unfold Inv
  exact sep_elim_left.trans (bigSep_elim h)
theorem Inv_lev : Inv P κ ⊢ levAts L lv := by
  unfold Inv
  exact sep_elim_right

/-! ## The transfers' states -/

/-- What `c` holds for a transfer `j` not yet made, without the destination, -/
def Tok (q : PosShare TreeShare) (c : Dev nD) (j : Fin 32) : sProp 𝕄 :=
  iprop(dutyTok ER (rCell (nbr c j) j) 0 0 ∗ dutyTok ER (sCell c j) 0 0 ∗ reached ER (sCell c j) 0 ∗ atPos ER (sCell c j) 0 ∅ 0
    ∗ (if isY j then srcPts P c (blk c j) q else iprop(emp)))
/-- with it, -/
def Pend (q : PosShare TreeShare) (c : Dev nD) (j : Fin 32) : sProp 𝕄 := iprop(Tok P q c j ∗ Own (nbr c j) j)
/-- and once it has been made. -/
def Sent (c : Dev nD) (j : Fin 32) : sProp 𝕄 := iprop(cred (tallyAt (sCell c j) () N) ∗ atPos ER (sCell c j) 0 ∅ 0)
/-- All of `c`'s transfers, those of `D` still to be made. -/
def SS (q : PosShare TreeShare) (c : Dev nD) (D : Finset (Fin 32)) : sProp 𝕄 :=
  bigSep Finset.univ fun j => if j ∈ D then Pend P q c j else Sent c j
/-- All of `c`'s transfers made, those of `D` not yet known to have left. -/
def ZZ (c : Dev nD) (D : Finset (Fin 32)) : sProp 𝕄 :=
  bigSep Finset.univ fun j => if j ∈ D then Sent (F := F) c j else semVal (sCell c j) 0
/-- All the transfers to `c`, those of `D` not yet waited for. -/
def RR (c : Dev nD) (D : Finset (Fin 32)) : sProp 𝕄 :=
  bigSep Finset.univ fun j => if j ∈ D then iprop(atPos (ER (F := F)) (rCell c j) 0 ∅ 0 ∗ cred (tallyAt (rCell c j) () N)) else semVal (rCell c j) 0

/-- What `c` owes, whatever it has waited on. -/
def Owe (c : Dev nD) (O : CellTallies nD τ sig Unit) : sProp 𝕄 := iprop(∃ W, owes (c : Thread nD τ) O W)

theorem SS_done (q : PosShare TreeShare) (c : Dev nD) : SS P q c ∅ ⊢ ZZ c Finset.univ := by
  unfold SS ZZ
  exact bigSep_mono fun j _ => by
    rw [if_neg (Finset.notMem_empty j), if_pos (Finset.mem_univ j)]
    exact BI.Entails.refl _

/-! ## Making a transfer -/

theorem SS_take (q : PosShare TreeShare) (c : Dev nD) {D : Finset (Fin 32)} {j : Fin 32} (h : j ∈ D) :
    SS P q c D ⊢ iprop(Pend P q c j ∗ (Sent c j -∗ SS P q c (D.erase j))) := swap (Pend P q c) (Sent c) h

set_option maxHeartbeats 1000000 in
/-- A transfer out of `partial`. -/
theorem wp_sendY (q : PosShare TreeShare) (c : Dev nD) (j : Fin 32) (hj : isY j) {D : Finset (Fin 32)} (hD : j ∈ D)
    (n : Dev nD) (hn : n = nbr c j) (sS rS : DmaSem sig) (hsS : sS = sSem j) (hrS : rS = rSem j)
    (o : Fin 2 → ℕ) (ho : o = rowOff (blk c j)) (o3 : Fin 3 → ℕ) (ho3 : o3 = rowOff3 (blk c j))
    {inb : ∀ a, o a + S256x2048.size a ≤ S8192x2048.size a} {inb3 : ∀ a, o3 a + S1x256x2048.size a ≤ S1x8192x2048.size a}
    {hsq : S1x256x2048.Squeezes S256x2048}
    {hsc : ((Memref.whole main_v41_1).slice (Rect.unit (s := S8192x2048) o S256x2048.size inb) (fun _ => rfl) : Memref sig (Dev.tc n : Thread nD τ).2.kind .hbm S256x2048 .f32).view.ref.isScScratch = false}
    {hsrc : ((((Memref.whole main_arg0).slice (Rect.unit (s := S1x8192x2048) o3 S1x256x2048.size inb3) (fun _ => rfl) : Memref sig .tc .hbm S1x256x2048 .f32).squeeze S256x2048 hsq) : Memref sig .tc .hbm S256x2048 .f32).view.WordExact}
    {hdst : ((Memref.whole main_v41_1).slice (Rect.unit (s := S8192x2048) o S256x2048.size inb) (fun _ => rfl) : Memref sig .tc .hbm S256x2048 .f32).view.WordExact}
    {hsem : DmaTarget.Typed .hbm (.dma rS) (.remote (Dev.tc n : Thread nD τ) ((Memref.whole main_v41_1).slice (Rect.unit (s := S8192x2048) o S256x2048.size inb) (fun _ => rfl) : Memref sig .tc .hbm S256x2048 .f32) (.dma sS) hsc)}
    {α : Type} {Q : α → sProp 𝕄} {k : PUnit → Prog (TpuEff nD τ sig (Elt F) Λ₀ .tc) α} :
    iprop(Inv P κ ∗ SS P q c D ∗ Owe c (Ow c D))
      ⊢ iprop(((SS P q c (D.erase j) ∗ Owe c (Ow c (D.erase j))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole main_arg0).slice (Rect.unit (s := S1x8192x2048) o3 S1x256x2048.size inb3) (fun _ => rfl) : Memref sig .tc .hbm S1x256x2048 .f32).squeeze S256x2048 hsq)
                (.remote (Dev.tc n : Thread nD τ) ((Memref.whole main_v41_1).slice (Rect.unit (s := S8192x2048) o S256x2048.size inb) (fun _ => rfl) : Memref sig .tc .hbm S256x2048 .f32) (.dma sS) hsc) (.dma rS) hsrc hdst hsem) k) Q) := by
  subst hn hsS hrS ho ho3
  unfold Owe
  iintro ⟨#HI, HS, ⟨%W, Ho⟩⟩ Hk
  ihave H := (SS_take P q c hD) $$ HS
  unfold Pend Tok Own
  rw [if_pos hj]
  icases H with ⟨⟨⟨HtR, HtS, #HrS, Hat, Hsrc⟩, ⟨%fd, Hdst⟩, #HrR⟩, Hback⟩
  unfold srcPts rowPts
  have hb : blk (nbr c j) j = blk c j := blk_nbr_y c j hj
  rw [hb]
  iapply (Rounds.wp_send_pointsTo 𝒱₀ ER (Rd P) (c : Thread nD τ) none (κ₁ := κ (sCell c j)) (κ₂ := κ (rCell (nbr c j) j))
    (c' := ((nbr c j : Dev nD) : Thread nD τ)) (src := srcM (blk c j)) (dst := rowM (blk c j)) (sS := .dma (sSem j)) (sem := .dma (rSem j)) (r₁ := 0) (r₂ := 0) (d₁ := 0) (d₂ := 0) (fd := fd)
    (by rw [duties_s]; exact Finset.mem_singleton_self _) (by rw [duties_r]; exact Finset.mem_singleton_self _)
    () () N (rowM_credit _) (amount_s P c j 0) (amount_r P (nbr c j) j 0) (Ow c (D.erase j)) (Ow_take c hD) (W := W)
    (by rw [payload_s]; exact fun _ _ => trivial)
    (by rw [payload_r]; unfold rPay rowPts; rw [hb]; exact Entails.of_eq (pointsTo_congr (landed_y P c j hj fd)))) $$ [HtR HtS Hsrc Hdst Ho]
  · isplitr; · iapply (Inv_cell P κ (mem_s c j)); iexact HI
    isplitr; · iapply (Inv_cell P κ (mem_r (nbr c j) j)); iexact HI
    isplitl [Hsrc]; · iexact Hsrc
    isplitl [Hdst]; · iexact Hdst
    isplitl [Ho]; · iexact Ho
    isplitl [HtS]; · iexact HtS
    isplitr; · iexact HrS
    isplitl [HtR]; · iexact HtR
    iexact HrR
  iintro ⟨Hc, Ho⟩
  iapply Hk
  isplitr [Ho]
  · iapply Hback
    unfold Sent
    isplitl [Hc] <;> iassumption
  · iexists W; iexact Ho

set_option maxHeartbeats 1000000 in
/-- A transfer forwarding received rows. -/
theorem wp_sendF (q q' : PosShare TreeShare) (c : Dev nD) (j : Fin 32) (hj : ¬ isY j) {D : Finset (Fin 32)} (hD : j ∈ D)
    (n : Dev nD) (hn : n = nbr c j) (sS rS : DmaSem sig) (hsS : sS = sSem j) (hrS : rS = rSem j)
    (o o' : Fin 2 → ℕ) (ho : o = rowOff (blk c (srcStep j))) (ho' : o' = rowOff (blk c (srcStep j)))
    {inb : ∀ a, o a + S256x2048.size a ≤ S8192x2048.size a} {inb' : ∀ a, o' a + S256x2048.size a ≤ S8192x2048.size a}
    {hsc : ((Memref.whole main_v41_1).slice (Rect.unit (s := S8192x2048) o S256x2048.size inb) (fun _ => rfl) : Memref sig (Dev.tc n : Thread nD τ).2.kind .hbm S256x2048 .f32).view.ref.isScScratch = false}
    {hsrc : ((Memref.whole main_v41_1).slice (Rect.unit (s := S8192x2048) o' S256x2048.size inb') (fun _ => rfl) : Memref sig .tc .hbm S256x2048 .f32).view.WordExact}
    {hdst : ((Memref.whole main_v41_1).slice (Rect.unit (s := S8192x2048) o S256x2048.size inb) (fun _ => rfl) : Memref sig .tc .hbm S256x2048 .f32).view.WordExact}
    {hsem : DmaTarget.Typed .hbm (.dma rS) (.remote (Dev.tc n : Thread nD τ) ((Memref.whole main_v41_1).slice (Rect.unit (s := S8192x2048) o S256x2048.size inb) (fun _ => rfl) : Memref sig .tc .hbm S256x2048 .f32) (.dma sS) hsc)}
    {α : Type} {Q : α → sProp 𝕄} {k : PUnit → Prog (TpuEff nD τ sig (Elt F) Λ₀ .tc) α} :
    iprop(Inv P κ ∗ SS P q c D ∗ Owe c (Ow c D) ∗ rowPts c (blk c (srcStep j)) q' (recvVal P c))
      ⊢ iprop(((SS P q c (D.erase j) ∗ Owe c (Ow c (D.erase j))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole main_v41_1).slice (Rect.unit (s := S8192x2048) o' S256x2048.size inb') (fun _ => rfl) : Memref sig .tc .hbm S256x2048 .f32)
                (.remote (Dev.tc n : Thread nD τ) ((Memref.whole main_v41_1).slice (Rect.unit (s := S8192x2048) o S256x2048.size inb) (fun _ => rfl) : Memref sig .tc .hbm S256x2048 .f32) (.dma sS) hsc) (.dma rS) hsrc hdst hsem) k) Q) := by
  subst hn hsS hrS ho ho'
  unfold Owe
  iintro ⟨#HI, HS, ⟨%W, Ho⟩, Hsrc⟩ Hk
  ihave H := (SS_take P q c hD) $$ HS
  unfold Pend Tok Own
  icases H with ⟨⟨⟨HtR, HtS, #HrS, Hat, -⟩, ⟨%fd, Hdst⟩, #HrR⟩, Hback⟩
  unfold rowPts
  have hb : blk (nbr c j) j = blk c (srcStep j) := blk_nbr_fwd c j hj
  have hl := landed_fwd P c j hj fd
  rw [hb] at hl
  rw [hb]
  iapply (Rounds.wp_send_pointsTo 𝒱₀ ER (Rd P) (c : Thread nD τ) none (κ₁ := κ (sCell c j)) (κ₂ := κ (rCell (nbr c j) j))
    (c' := ((nbr c j : Dev nD) : Thread nD τ)) (src := rowM (blk c (srcStep j))) (dst := rowM (blk c (srcStep j))) (sS := .dma (sSem j)) (sem := .dma (rSem j)) (r₁ := 0) (r₂ := 0) (d₁ := 0) (d₂ := 0) (fd := fd)
    (by rw [duties_s]; exact Finset.mem_singleton_self _) (by rw [duties_r]; exact Finset.mem_singleton_self _)
    () () N (rowM_credit _) (amount_s P c j 0) (amount_r P (nbr c j) j 0) (Ow c (D.erase j)) (Ow_take c hD) (W := W)
    (by rw [payload_s]; exact fun _ _ => trivial)
    (by rw [payload_r]; unfold rPay rowPts; rw [hb]; exact Entails.of_eq (pointsTo_congr hl))) $$ [HtR HtS Hsrc Hdst Ho]
  · isplitr; · iapply (Inv_cell P κ (mem_s c j)); iexact HI
    isplitr; · iapply (Inv_cell P κ (mem_r (nbr c j) j)); iexact HI
    isplitl [Hsrc]; · iexact Hsrc
    isplitl [Hdst]; · iexact Hdst
    isplitl [Ho]; · iexact Ho
    isplitl [HtS]; · iexact HtS
    isplitr; · iexact HrS
    isplitl [HtR]; · iexact HtR
    iexact HrR
  iintro ⟨Hc, Ho⟩
  iapply Hk
  isplitr [Ho]
  · iapply Hback
    unfold Sent
    isplitl [Hc] <;> iassumption
  · iexists W; iexact Ho

/-! ## Waiting -/

/-- Waiting for a transfer to arrive: the filled block, and the semaphore back at zero. -/
theorem wp_recv (c : Dev nD) (j : Fin 32) {D E : Finset (Fin 32)} (hD : j ∈ D) (hE : ∀ i ∈ E, jlev j < jlev i)
    (rS : DmaSem sig) (hrS : rS = rSem j) {sp sp' : Space} {s s' : Shape} {e e' : EltTy}
    {srcw : Memref sig .tc sp' s' e'} {dstw : Memref sig .tc sp s e} (hN : dstw.view.dmaCredit = N)
    {hsrc : srcw.view.WordExact} {hdst : dstw.view.WordExact}
    {α : Type} {Q : α → sProp 𝕄} {k : PUnit → Prog (TpuEff nD τ sig (Elt F) Λ₀ .tc) α} :
    iprop(Inv P κ ∗ RR c D ∗ Owe c (Ow c E))
      ⊢ iprop(((RR c (D.erase j) ∗ Owe c (Ow c E) ∗ rPay P c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS srcw dstw hsrc hdst) k) Q) := by
  subst hrS
  unfold Owe
  iintro ⟨#HI, HR, ⟨%W, Ho⟩⟩ Hk
  have htake : RR (F := F) c D ⊢ iprop((atPos (ER (F := F)) (rCell c j) 0 ∅ 0 ∗ cred (tallyAt (rCell c j) () N)) ∗ (semVal (rCell c j) 0 -∗ RR c (D.erase j))) :=
    swap (fun j => iprop(atPos (ER (F := F)) (rCell c j) 0 ∅ 0 ∗ cred (tallyAt (rCell c j) () N))) (fun j => semVal (rCell c j) 0) hD
  ihave H := htake $$ HR
  rw [← hN]
  icases H with ⟨⟨Hat, Hc⟩, Hback⟩
  iapply (Rounds.wp_wait_rest_token 𝒱₀ ER (Rd P) (c : Thread nD τ) none (κ := κ (rCell c j))
      (wpE_waitDma2_eq 𝒱₀ (c : Thread nD τ) none Set.univ) (Set.mem_univ _) () (O := Ow c E) (W := W) (R := 0) (m := 0) (T := ∅)
      (by rw [Nat.zero_add, expect_r, hN])) $$ [Hc Ho Hat]
  · isplitr; · iapply (Inv_cell P κ (mem_r c j)); iexact HI
    isplitl [Hc]; · iexact Hc
    isplitl [Ho]; · iexact Ho
    isplitr; · iapply (mayWait_dma c (rSem j) E hE); iapply (Inv_lev P κ); iexact HI
    iexact Hat
  iintro ⟨Ho, Hat, -, Hpay⟩
  ihave Hp := (Entails.of_eq (rest_r P c j)) $$ Hpay
  imod (Rounds.cell_close ER (Rd P) (g := rCell c j) (κ := κ (rCell c j)) (Set.mem_univ _) (fun h => h) (R := 1) (duties_later P (rCell c j))) $$ [Hat] with Hv
  · isplitr; · iapply (Inv_cell P κ (mem_r c j)); iexact HI
    iexact Hat
  iapply Hk
  isplitl [Hv Hback]; · iapply Hback; iexact Hv
  isplitl [Ho]; · iexists _; iexact Ho
  iexact Hp

/-- Waiting for a transfer to have left. -/
theorem wp_left (c : Dev nD) (j : Fin 32) {D : Finset (Fin 32)} (hD : j ∈ D)
    (sS : DmaSem sig) (hsS : sS = sSem j) {sp sp' : Space} {s s' : Shape} {e e' : EltTy}
    {srcw : Memref sig .tc sp' s' e'} {dstw : Memref sig .tc sp s e} (hN : dstw.view.dmaCredit = N)
    {hsrc : srcw.view.WordExact} {hdst : dstw.view.WordExact}
    {α : Type} {Q : α → sProp 𝕄} {k : PUnit → Prog (TpuEff nD τ sig (Elt F) Λ₀ .tc) α} :
    iprop(Inv P κ ∗ ZZ c D ∗ Owe c 0)
      ⊢ iprop(((ZZ c (D.erase j) ∗ Owe c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS srcw dstw hsrc hdst) k) Q) := by
  subst hsS
  unfold Owe
  iintro ⟨#HI, HR, ⟨%W, Ho⟩⟩ Hk
  have htake : ZZ (F := F) c D ⊢ iprop(Sent c j ∗ (semVal (sCell c j) 0 -∗ ZZ c (D.erase j))) :=
    swap (fun j => Sent (F := F) c j) (fun j => semVal (sCell c j) 0) hD
  ihave H := htake $$ HR
  unfold Sent
  rw [← hN]
  icases H with ⟨⟨Hc, Hat⟩, Hback⟩
  iapply (Rounds.wp_wait_rest_token 𝒱₀ ER (Rd P) (c : Thread nD τ) none (κ := κ (sCell c j))
      (wpE_waitDma2_eq 𝒱₀ (c : Thread nD τ) none Set.univ) (Set.mem_univ _) () (O := 0) (W := W) (R := 0) (m := 0) (T := ∅)
      (by rw [Nat.zero_add, expect_s, hN])) $$ [Hc Ho Hat]
  · isplitr; · iapply (Inv_cell P κ (mem_s c j)); iexact HI
    isplitl [Hc]; · iexact Hc
    isplitl [Ho]; · iexact Ho
    isplitr; · rw [MayWait_zero]; iempintro
    iexact Hat
  iintro ⟨Ho, Hat, -, -⟩
  imod (Rounds.cell_close ER (Rd P) (g := sCell c j) (κ := κ (sCell c j)) (Set.mem_univ _) (fun h => h) (R := 1) (duties_later P (sCell c j))) $$ [Hat] with Hv
  · isplitr; · iapply (Inv_cell P κ (mem_s c j)); iexact HI
    iexact Hat
  iapply Hk
  isplitl [Hv Hback]; · iapply Hback; iexact Hv
  iexists _; iexact Ho

/-! ## Meeting the neighbours -/

/-- What `c` hands the neighbour of kind `d` on arriving: its own blocks that neighbour is to fill. -/
def Give (c : Dev nD) (d : Fin 3) : sProp 𝕄 := bigSep Finset.univ fun j : Fin 32 => if kd j = d then Own c j else iprop(emp)
theorem barPay_dn (c : Dev nD) (d : Fin 3) : barPay (F := F) (dn c d) d = Give c d := by
  unfold barPay Give
  refine bigSep_congr fun j _ => ?_
  by_cases h : kd j = d
  · rw [if_pos h, if_pos h, nbr_kd, h, dn_dn]
  · rw [if_neg h, if_neg h]

/-- One resource per transfer, dealt out by kind. -/
theorem deal (Φ : Fin 32 → sProp 𝕄) :
    bigSep Finset.univ Φ = bigSep Finset.univ fun d : Fin 3 => bigSep Finset.univ fun j : Fin 32 => if kd j = d then Φ j else iprop(emp) := by
  rw [bigSep_univ_comm]
  refine bigSep_congr fun j _ => ?_
  rw [bigSep_univ_at _ (kd j), if_pos rfl,
    bigSep_congr (Ψ := fun _ => iprop(emp)) (s := Finset.univ.erase (kd j)) (fun d hd => if_neg (Finset.ne_of_mem_erase hd).symm)]
  have e : (bigSep (Finset.univ.erase (kd j)) fun _ : Fin 3 => (iprop(emp) : sProp 𝕄)) = iprop(emp) := bigSep_emp_const _
  rw [e]
  exact (equiv_iff.mp sep_emp).symm

theorem wp_greet (c : Dev nD) (d : Fin 3) {D : Finset (Fin 32)} {B : Finset (Fin 3)} (hB : d ∈ B)
    (n : Dev nD) (hn : n = dn c d)
    {α : Type} {Q : α → sProp 𝕄} {k : PUnit → Prog (TpuEff nD τ sig (Elt F) Λ₀ .tc) α} :
    iprop(Inv P κ ∗ Owe c (Ow c D + Ob c B) ∗ dutyTok ER (bCell (dn c d)) 0 d ∗ reached ER (bCell (dn c d)) 0 ∗ Give c d)
      ⊢ iprop((Owe c (Ow c D + Ob c (B.erase d)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS.sem 1) k) Q) := by
  subst hn
  unfold Owe
  iintro ⟨#HI, ⟨%W, Ho⟩, Ht, #Hr, Hg⟩ Hk
  iapply (Rounds.wp_signal 𝒱₀ ER (Rd P) (c : Thread nD τ) none (dst := ((dn c d : Dev nD) : Thread nD τ)) (κ := κ (bCell (dn c d))) (r := 0) (d := d)
      (by rw [duties_bar]; exact Finset.mem_univ _) (amount_bar P (dn c d) d) () (Ow c D + Ob c (B.erase d))
      (show Ow c D + Ob c B = _ by rw [Ob_take c hB, add_assoc]) (W := W)) $$ [Ho Ht Hg]
  · isplitr; · iapply (Inv_cell P κ (mem_bar (dn c d))); iexact HI
    isplitl [Ho]; · iexact Ho
    isplitl [Ht]; · iexact Ht
    isplitl [Hg]
    · rw [payload_bar, barPay_dn]; iexact Hg
    iexact Hr
  iintro Ho
  iapply Hk
  iexists W; iexact Ho

theorem wp_meet (c : Dev nD) {D : Finset (Fin 32)}
    {α : Type} {Q : α → sProp 𝕄} {k : PUnit → Prog (TpuEff nD τ sig (Elt F) Λ₀ .tc) α} :
    iprop(Inv P κ ∗ Owe c (Ow c D) ∗ cred (tallyAt (bCell c) () 3) ∗ atPos ER (bCell c) 0 ∅ 0)
      ⊢ iprop(((Owe c (Ow c D) ∗ semVal (bCell c) 0 ∗ bigSep Finset.univ (fun j : Fin 32 => Own (nbr c j) j)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS.sem 3) k) Q) := by
  unfold Owe
  iintro ⟨#HI, ⟨%W, Ho⟩, Hc, Hat⟩ Hk
  iapply (Rounds.wp_wait_rest_token 𝒱₀ ER (Rd P) (c : Thread nD τ) none (κ := κ (bCell c))
      (wpE_semWait_eq 𝒱₀ (c : Thread nD τ) none Set.univ) (Set.mem_univ _) () (O := Ow c D) (W := W) (R := 0) (m := 0) (T := ∅)
      (by rw [Nat.zero_add, expect_bar])) $$ [Hc Ho Hat]
  · isplitr; · iapply (Inv_cell P κ (mem_bar c)); iexact HI
    isplitl [Hc]; · iexact Hc
    isplitl [Ho]; · iexact Ho
    isplitr; · iapply (mayWait_bar c D); iapply (Inv_lev P κ); iexact HI
    iexact Hat
  iintro ⟨Ho, Hat, -, Hpay⟩
  ihave Hp := (Entails.of_eq (rest_bar P c)) $$ Hpay
  ihave Hp' := (Entails.of_eq (show bigSep Finset.univ (barPay (F := F) c) = bigSep Finset.univ (fun j : Fin 32 => Own (nbr c j) j) from (deal _).symm)) $$ Hp
  imod (Rounds.cell_close ER (Rd P) (g := bCell c) (κ := κ (bCell c)) (Set.mem_univ _) (fun h => h) (R := 1) (duties_later P (bCell c))) $$ [Hat] with Hv
  · isplitr; · iapply (Inv_cell P κ (mem_bar c)); iexact HI
    iexact Hat
  iapply Hk
  isplitl [Ho]; · iexists _; iexact Ho
  isplitl [Hv] <;> iassumption

end Cert.LnProof
-- ==== Proof.Parts.lean ====
/-
  The kernel's stretches of transfers and waits: the eleven transfers out of `partial` at the first step, the waits for all
  thirty-two transfers to have left at the last.
-/
module

public import proofs.«01_k».proof.Proof.Ops
public import proofs.«01_k».proof.Proof.Gen.KernelIdeal.Skeleton

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (P : Dev nD → PVal F) (κ : GSem nD τ sig → ℕ)

/-! ## The transfers out of `partial`, in the order they are made -/

/-- The `n`-th of the transfers across y, -/
def yj (n : ℕ) : Fin 32 := Fin.ofNat 32 (if n < 8 then n else n + 16)
/-- and what is still to be made before it. -/
def yD : ℕ → Finset (Fin 32)
  | 0 => Finset.univ
  | n + 1 => (yD n).erase (yj n)
theorem yj_mem : ∀ n : Fin 11, yj n.val ∈ yD n.val := by decide +kernel
theorem yj_isY : ∀ n : Fin 11, isY (yj n.val) := by decide +kernel
theorem yD_done : yD 11 = Fset 0 := by decide +kernel

/-- The `n`-th transfer waited for at the end, -/
def zj (n : ℕ) : Fin 32 :=
  Fin.ofNat 32 (if n < 8 then n else if n < 11 then n + 16 else if n < 27 then (if (n - 11) % 2 = 0 then 16 + (n - 11) / 2 else 8 + (n - 11) / 2) else n)
/-- and those not yet waited for before it. -/
def zD : ℕ → Finset (Fin 32)
  | 0 => Finset.univ
  | n + 1 => (zD n).erase (zj n)
theorem zj_mem : ∀ n : Fin 32, zj n.val ∈ zD n.val := by decide +kernel
theorem zD_done : zD 32 = ∅ := by decide +kernel

/-- `c`'s transfers and debts, with `n` of the transfers across y made. -/
def Ysent (q : PosShare TreeShare) (c : Dev nD) (n : ℕ) : sProp 𝕄 := iprop(SS P q c (yD n) ∗ Owe c (Ow c (yD n)))
/-- `c`'s transfers, `n` of them known to have left. -/
def Zleft (c : Dev nD) (n : ℕ) : sProp 𝕄 := iprop(ZZ (F := F) c (zD n) ∗ Owe c 0)

theorem stepY (q : PosShare TreeShare) (c : Dev nD) (r : Fin 11) (R : sProp 𝕄)
    (n : Dev nD) (hn : n = yn c) (sS rS : DmaSem sig) (hsS : sS = sSem (yj r.val)) (hrS : rS = rSem (yj r.val))
    (o : Fin 2 → ℕ) (ho : o = rowOff (blk c (yj r.val))) (o3 : Fin 3 → ℕ) (ho3 : o3 = rowOff3 (blk c (yj r.val)))
    {inb : ∀ a, o a + S256x2048.size a ≤ S8192x2048.size a} {inb3 : ∀ a, o3 a + S1x256x2048.size a ≤ S1x8192x2048.size a}
    {hsq : S1x256x2048.Squeezes S256x2048}
    {hsc : ((Memref.whole main_v41_1).slice (Rect.unit (s := S8192x2048) o S256x2048.size inb) (fun _ => rfl) : Memref sig (Dev.tc n : Thread nD τ).2.kind .hbm S256x2048 .f32).view.ref.isScScratch = false}
    {hsrc : ((((Memref.whole main_arg0).slice (Rect.unit (s := S1x8192x2048) o3 S1x256x2048.size inb3) (fun _ => rfl) : Memref sig .tc .hbm S1x256x2048 .f32).squeeze S256x2048 hsq) : Memref sig .tc .hbm S256x2048 .f32).view.WordExact}
    {hdst : ((Memref.whole main_v41_1).slice (Rect.unit (s := S8192x2048) o S256x2048.size inb) (fun _ => rfl) : Memref sig .tc .hbm S256x2048 .f32).view.WordExact}
    {hsem : DmaTarget.Typed .hbm (.dma rS) (.remote (Dev.tc n : Thread nD τ) ((Memref.whole main_v41_1).slice (Rect.unit (s := S8192x2048) o S256x2048.size inb) (fun _ => rfl) : Memref sig .tc .hbm S256x2048 .f32) (.dma sS) hsc)}
    {α : Type} {Q : α → sProp 𝕄} {k : PUnit → Prog (TpuEff nD τ sig (Elt F) Λ₀ .tc) α}
    (h : iprop(Inv P κ ∗ Ysent P q c (r.val + 1) ∗ R) ⊢ wp frame (wpE (defs₀ (F := F)) 𝒱₀ (c : Thread nD τ) none) Set.univ (k ⟨⟩) Q) :
    iprop(Inv P κ ∗ Ysent P q c r.val ∗ R)
      ⊢ wp frame (wpE (defs₀ (F := F)) 𝒱₀ (c : Thread nD τ) none) Set.univ
              (.op (.enqueueDma (((Memref.whole main_arg0).slice (Rect.unit (s := S1x8192x2048) o3 S1x256x2048.size inb3) (fun _ => rfl) : Memref sig .tc .hbm S1x256x2048 .f32).squeeze S256x2048 hsq)
                (.remote (Dev.tc n : Thread nD τ) ((Memref.whole main_v41_1).slice (Rect.unit (s := S8192x2048) o S256x2048.size inb) (fun _ => rfl) : Memref sig .tc .hbm S256x2048 .f32) (.dma sS) hsc) (.dma rS) hsrc hdst hsem) k) Q := by
  have hw := wp_sendY P κ q c (yj r.val) (yj_isY r) (yj_mem r) n (hn.trans (nbr_y (yj_isY r) c).symm) sS rS hsS hrS o ho o3 ho3 (inb := inb) (inb3 := inb3) (hsq := hsq)
    (hsc := hsc) (hsrc := hsrc) (hdst := hdst) (hsem := hsem) (Q := Q) (k := k)
  unfold Ysent at h ⊢
  iintro ⟨#HI, ⟨HS, Ho⟩, HR⟩
  iapply hw $$ [HS Ho]
  · isplitr; · iexact HI
    isplitl [HS] <;> iassumption
  iintro H
  iapply h
  isplitr; · iexact HI
  isplitl [H]; · iexact H
  iexact HR

theorem stepZ (c : Dev nD) (n : Fin 32) (R : sProp 𝕄)
    (sS : DmaSem sig) (hsS : sS = sSem (zj n.val)) {sp sp' : Space} {s s' : Shape} {e e' : EltTy}
    {srcw : Memref sig .tc sp' s' e'} {dstw : Memref sig .tc sp s e} (hN : dstw.view.dmaCredit = N)
    {hsrc : srcw.view.WordExact} {hdst : dstw.view.WordExact}
    {α : Type} {Q : α → sProp 𝕄} {k : PUnit → Prog (TpuEff nD τ sig (Elt F) Λ₀ .tc) α}
    (h : iprop(Inv P κ ∗ Zleft c (n.val + 1) ∗ R) ⊢ wp frame (wpE (defs₀ (F := F)) 𝒱₀ (c : Thread nD τ) none) Set.univ (k ⟨⟩) Q) :
    iprop(Inv P κ ∗ Zleft c n.val ∗ R)
      ⊢ wp frame (wpE (defs₀ (F := F)) 𝒱₀ (c : Thread nD τ) none) Set.univ (.op (.waitDma2 sS srcw dstw hsrc hdst) k) Q := by
  have hw := wp_left P κ c (zj n.val) (zj_mem n) sS hsS hN (hsrc := hsrc) (hdst := hdst) (Q := Q) (k := k)
  unfold Zleft at h ⊢
  iintro ⟨#HI, ⟨HS, Ho⟩, HR⟩
  iapply hw $$ [HS Ho]
  · isplitr; · iexact HI
    isplitl [HS] <;> iassumption
  iintro H
  iapply h
  isplitr; · iexact HI
  isplitl [H]; · iexact H
  iexact HR

theorem row_credit (o : Fin 2 → ℕ) (inb : ∀ a, o a + S256x2048.size a ≤ S8192x2048.size a) :
    ((Memref.whole main_v41_1).slice (Rect.unit (s := S8192x2048) o S256x2048.size inb) (fun _ => rfl) : Memref sig .tc .hbm S256x2048 .f32).view.dmaCredit = N := rfl
theorem arg0_credit (o : Fin 3 → ℕ) (inb : ∀ a, o a + S1x256x2048.size a ≤ S1x8192x2048.size a) (hsq : S1x256x2048.Squeezes S256x2048) :
    (((Memref.whole main_arg0).slice (Rect.unit (s := S1x8192x2048) o S1x256x2048.size inb) (fun _ => rfl) : Memref sig .tc .hbm S1x256x2048 .f32).squeeze S256x2048 hsq : Memref sig .tc .hbm S256x2048 .f32).view.dmaCredit = N := rfl

theorem sem_eq {n N b : ℕ} (h : b + (⟨1, ![n]⟩ : Shape).numel ≤ N) (off : Fin 1 → ℕ) (inb : ∀ a, off a + S1.size a ≤ (⟨1, ![n]⟩ : Shape).size a)
    (t : Fin N) (e : b + off 0 = t.val) :
    ((((SemArray.consecutive (n := N) b ⟨1, ![n]⟩ h).slice (Rect.unit (s := ⟨1, ![n]⟩) off S1.size inb)).squeeze S_ squeezes_S1_S_).sem) = t :=
  Fin.ext ((sem_pick h off inb).trans e)

theorem wp_done {c : Dev nD} {α : Type} {x : α} {A : sProp 𝕄} {Q : α → sProp 𝕄} (h : A ⊢ Q x) :
    A ⊢ wp frame (wpE (defs₀ (F := F)) 𝒱₀ (c : Thread nD τ) none) Set.univ (Prog.ret x) Q := by
  rw [wp_ret]
  iintro H
  imodintro
  iapply h
  iexact H

section
variable (q : PosShare TreeShare) (c : Dev nD) (i : grid0.Coords)
  {h1 : (Memref.whole main_v40 : Memref sig .tc .smem S32 .i32).IsWhole} {h2 : (Memref.whole main_arg0 : Memref sig .tc .hbm S1x8192x2048 .f32).IsWhole}
  {a3 : Memref sig .tc .vmem S1x256x2048 .f32} {h3 : a3.IsWhole} {a4 : Memref sig .tc .vmem S256x2048 .f32} {h4 : a4.IsWhole}
  {a5 : Memref sig .tc .vmem S1x2048 .f32} {h5 : a5.IsWhole} {a6 : Memref sig .tc .vmem S256x2048 .f32} {h6 : a6.IsWhole}
  {h7 : (Memref.whole main_v41_1 : Memref sig .tc .hbm S8192x2048 .f32).IsWhole} {h8 : (Memref.whole cc0_scratch0 : Memref sig .tc .vmem S256x2048 .f32).IsWhole}

theorem part2_wp {R : sProp 𝕄} {v2 v8 v19 v26 : BitVec 32} {hc : k0_cond1 i = 1#1} {Q : PUnit → sProp 𝕄} (h : iprop(Inv P κ ∗ Ysent P q c 3 ∗ R) ⊢ Q ⟨⟩) :
    iprop(Inv P κ ∗ Ysent P q c 0 ∗ R) ⊢ wp frame (wpE (defs₀ (F := F)) 𝒱₀ (c : Thread nD τ) none) Set.univ
      (k0_part2 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v2 v8 v19 v26 hc) Q := by
  rw [k0_part2_eq_skeleton]; unfold k0_part2_skel
  simp only [Prog.lift, Prog.bind_op, Prog.bind_ret, Prog.pure_eq_ret]
  refine stepY P κ q c 0 R _ (Fin.ext (dev4 c)) _ _ (by exact sem_eq _ _ _ _ (by decide +kernel)) (by exact sem_eq _ _ _ _ (by decide +kernel)) _ (off2 c 0) _ (off3 c 0) ?_
  refine stepY P κ q c 1 R _ (Fin.ext (dev5 c)) _ _ (by exact sem_eq _ _ _ _ (by decide +kernel)) (by exact sem_eq _ _ _ _ (by decide +kernel)) _ (off2 c 1) _ (off3 c 1) ?_
  refine stepY P κ q c 2 R _ (Fin.ext (dev6 c)) _ _ (by exact sem_eq _ _ _ _ (by decide +kernel)) (by exact sem_eq _ _ _ _ (by decide +kernel)) _ (off2 c 2) _ (off3 c 2) ?_
  exact wp_done h

theorem part3_wp {R : sProp 𝕄} {v2 v8 v19 v26 : BitVec 32} {hc : k0_cond1 i = 1#1} {Q : PUnit → sProp 𝕄} (h : iprop(Inv P κ ∗ Ysent P q c 5 ∗ R) ⊢ Q ⟨⟩) :
    iprop(Inv P κ ∗ Ysent P q c 3 ∗ R) ⊢ wp frame (wpE (defs₀ (F := F)) 𝒱₀ (c : Thread nD τ) none) Set.univ
      (k0_part3 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v2 v8 v19 v26 hc) Q := by
  rw [k0_part3_eq_skeleton]; unfold k0_part3_skel
  simp only [Prog.lift, Prog.bind_op, Prog.bind_ret, Prog.pure_eq_ret]
  refine stepY P κ q c 3 R _ (Fin.ext (dev7 c)) _ _ (by exact sem_eq _ _ _ _ (by decide +kernel)) (by exact sem_eq _ _ _ _ (by decide +kernel)) _ (off2 c 3) _ (off3 c 3) ?_
  refine stepY P κ q c 4 R _ (Fin.ext (dev8 c)) _ _ (by exact sem_eq _ _ _ _ (by decide +kernel)) (by exact sem_eq _ _ _ _ (by decide +kernel)) _ (off2 c 4) _ (off3 c 4) ?_
  exact wp_done h

theorem part4_wp {R : sProp 𝕄} {v2 v8 v19 v26 : BitVec 32} {hc : k0_cond1 i = 1#1} {Q : PUnit → sProp 𝕄} (h : iprop(Inv P κ ∗ Ysent P q c 8 ∗ R) ⊢ Q ⟨⟩) :
    iprop(Inv P κ ∗ Ysent P q c 5 ∗ R) ⊢ wp frame (wpE (defs₀ (F := F)) 𝒱₀ (c : Thread nD τ) none) Set.univ
      (k0_part4 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v2 v8 v19 v26 hc) Q := by
  rw [k0_part4_eq_skeleton]; unfold k0_part4_skel
  simp only [Prog.lift, Prog.bind_op, Prog.bind_ret, Prog.pure_eq_ret]
  refine stepY P κ q c 5 R _ (Fin.ext (dev9 c)) _ _ (by exact sem_eq _ _ _ _ (by decide +kernel)) (by exact sem_eq _ _ _ _ (by decide +kernel)) _ (off2 c 5) _ (off3 c 5) ?_
  refine stepY P κ q c 6 R _ (Fin.ext (dev10 c)) _ _ (by exact sem_eq _ _ _ _ (by decide +kernel)) (by exact sem_eq _ _ _ _ (by decide +kernel)) _ (off2 c 6) _ (off3 c 6) ?_
  refine stepY P κ q c 7 R _ (Fin.ext (dev11 c)) _ _ (by exact sem_eq _ _ _ _ (by decide +kernel)) (by exact sem_eq _ _ _ _ (by decide +kernel)) _ (off2 c 7) _ (off3 c 7) ?_
  exact wp_done h

theorem part5_wp {R : sProp 𝕄} {v2 v8 v19 v39 : BitVec 32} {hc : k0_cond1 i = 1#1} {Q : (r : Σ' (_ : BitVec 32), BitVec 32) → sProp 𝕄} (h : ∀ r, iprop(Inv P κ ∗ Ysent P q c 10 ∗ R) ⊢ Q r) :
    iprop(Inv P κ ∗ Ysent P q c 8 ∗ R) ⊢ wp frame (wpE (defs₀ (F := F)) 𝒱₀ (c : Thread nD τ) none) Set.univ
      (k0_part5 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v2 v8 v19 v39 hc) Q := by
  rw [k0_part5_eq_skeleton]; unfold k0_part5_skel
  simp only [Prog.lift, Prog.bind_op, Prog.bind_ret, Prog.pure_eq_ret]
  refine stepY P κ q c 8 R _ (Fin.ext (dev12 c)) _ _ (by exact sem_eq _ _ _ _ (by decide +kernel)) (by exact sem_eq _ _ _ _ (by decide +kernel)) _ (off4 c 0) _ (off5 c 0) ?_
  refine stepY P κ q c 9 R _ (Fin.ext (dev13 c)) _ _ (by exact sem_eq _ _ _ _ (by decide +kernel)) (by exact sem_eq _ _ _ _ (by decide +kernel)) _ (off4 c 1) _ (off5 c 1) ?_
  exact wp_done (h _)

theorem part7_wp {R : sProp 𝕄} {v26 : BitVec 32} {hc : k0_cond11 i = 1#1} {Q : PUnit → sProp 𝕄} (h : iprop(Inv P κ ∗ Zleft c 4 ∗ R) ⊢ Q ⟨⟩) :
    iprop(Inv P κ ∗ Zleft c 0 ∗ R) ⊢ wp frame (wpE (defs₀ (F := F)) 𝒱₀ (c : Thread nD τ) none) Set.univ
      (k0_part7 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 hc) Q := by
  rw [k0_part7_eq_skeleton]; unfold k0_part7_skel
  simp only [Prog.lift, Prog.bind_op, Prog.bind_ret, Prog.pure_eq_ret]
  refine stepZ P κ c 0 R _ (by exact sem_eq _ _ _ _ (by decide +kernel)) (arg0_credit _ _ _) ?_
  refine stepZ P κ c 1 R _ (by exact sem_eq _ _ _ _ (by decide +kernel)) (arg0_credit _ _ _) ?_
  refine stepZ P κ c 2 R _ (by exact sem_eq _ _ _ _ (by decide +kernel)) (arg0_credit _ _ _) ?_
  refine stepZ P κ c 3 R _ (by exact sem_eq _ _ _ _ (by decide +kernel)) (arg0_credit _ _ _) ?_
  exact wp_done h

theorem part8_wp {R : sProp 𝕄} {v26 v39 : BitVec 32} {hc : k0_cond11 i = 1#1} {Q : PUnit → sProp 𝕄} (h : iprop(Inv P κ ∗ Zleft c 8 ∗ R) ⊢ Q ⟨⟩) :
    iprop(Inv P κ ∗ Zleft c 4 ∗ R) ⊢ wp frame (wpE (defs₀ (F := F)) 𝒱₀ (c : Thread nD τ) none) Set.univ
      (k0_part8 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 v39 hc) Q := by
  rw [k0_part8_eq_skeleton]; unfold k0_part8_skel
  simp only [Prog.lift, Prog.bind_op, Prog.bind_ret, Prog.pure_eq_ret]
  refine stepZ P κ c 4 R _ (by exact sem_eq _ _ _ _ (by decide +kernel)) (arg0_credit _ _ _) ?_
  refine stepZ P κ c 5 R _ (by exact sem_eq _ _ _ _ (by decide +kernel)) (arg0_credit _ _ _) ?_
  refine stepZ P κ c 6 R _ (by exact sem_eq _ _ _ _ (by decide +kernel)) (arg0_credit _ _ _) ?_
  refine stepZ P κ c 7 R _ (by exact sem_eq _ _ _ _ (by decide +kernel)) (arg0_credit _ _ _) ?_
  exact wp_done h

theorem part9_wp {R : sProp 𝕄} {v26 v39 : BitVec 32} {hc : k0_cond11 i = 1#1} {Q : PUnit → sProp 𝕄} (h : iprop(Inv P κ ∗ Zleft c 12 ∗ R) ⊢ Q ⟨⟩) :
    iprop(Inv P κ ∗ Zleft c 8 ∗ R) ⊢ wp frame (wpE (defs₀ (F := F)) 𝒱₀ (c : Thread nD τ) none) Set.univ
      (k0_part9 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 v39 hc) Q := by
  rw [k0_part9_eq_skeleton]; unfold k0_part9_skel
  simp only [Prog.lift, Prog.bind_op, Prog.bind_ret, Prog.pure_eq_ret]
  refine stepZ P κ c 8 R _ (by exact sem_eq _ _ _ _ (by decide +kernel)) (arg0_credit _ _ _) ?_
  refine stepZ P κ c 9 R _ (by exact sem_eq _ _ _ _ (by decide +kernel)) (arg0_credit _ _ _) ?_
  refine stepZ P κ c 10 R _ (by exact sem_eq _ _ _ _ (by decide +kernel)) (arg0_credit _ _ _) ?_
  refine stepZ P κ c 11 R _ (by exact sem_eq _ _ _ _ (by decide +kernel)) (row_credit _ _) ?_
  exact wp_done h

theorem part10_wp {R : sProp 𝕄} {v26 : BitVec 32} {hc : k0_cond11 i = 1#1} {Q : PUnit → sProp 𝕄} (h : iprop(Inv P κ ∗ Zleft c 17 ∗ R) ⊢ Q ⟨⟩) :
    iprop(Inv P κ ∗ Zleft c 12 ∗ R) ⊢ wp frame (wpE (defs₀ (F := F)) 𝒱₀ (c : Thread nD τ) none) Set.univ
      (k0_part10 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 hc) Q := by
  rw [k0_part10_eq_skeleton]; unfold k0_part10_skel
  simp only [Prog.lift, Prog.bind_op, Prog.bind_ret, Prog.pure_eq_ret]
  refine stepZ P κ c 12 R _ (by exact sem_eq _ _ _ _ (by decide +kernel)) (row_credit _ _) ?_
  refine stepZ P κ c 13 R _ (by exact sem_eq _ _ _ _ (by decide +kernel)) (row_credit _ _) ?_
  refine stepZ P κ c 14 R _ (by exact sem_eq _ _ _ _ (by decide +kernel)) (row_credit _ _) ?_
  refine stepZ P κ c 15 R _ (by exact sem_eq _ _ _ _ (by decide +kernel)) (row_credit _ _) ?_
  refine stepZ P κ c 16 R _ (by exact sem_eq _ _ _ _ (by decide +kernel)) (row_credit _ _) ?_
  exact wp_done h

theorem part11_wp {R : sProp 𝕄} {v26 : BitVec 32} {hc : k0_cond11 i = 1#1} {Q : PUnit → sProp 𝕄} (h : iprop(Inv P κ ∗ Zleft c 21 ∗ R) ⊢ Q ⟨⟩) :
    iprop(Inv P κ ∗ Zleft c 17 ∗ R) ⊢ wp frame (wpE (defs₀ (F := F)) 𝒱₀ (c : Thread nD τ) none) Set.univ
      (k0_part11 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 hc) Q := by
  rw [k0_part11_eq_skeleton]; unfold k0_part11_skel
  simp only [Prog.lift, Prog.bind_op, Prog.bind_ret, Prog.pure_eq_ret]
  refine stepZ P κ c 17 R _ (by exact sem_eq _ _ _ _ (by decide +kernel)) (row_credit _ _) ?_
  refine stepZ P κ c 18 R _ (by exact sem_eq _ _ _ _ (by decide +kernel)) (row_credit _ _) ?_
  refine stepZ P κ c 19 R _ (by exact sem_eq _ _ _ _ (by decide +kernel)) (row_credit _ _) ?_
  refine stepZ P κ c 20 R _ (by exact sem_eq _ _ _ _ (by decide +kernel)) (row_credit _ _) ?_
  exact wp_done h

theorem part12_wp {R : sProp 𝕄} {v26 : BitVec 32} {hc : k0_cond11 i = 1#1} {Q : PUnit → sProp 𝕄} (h : iprop(Inv P κ ∗ Zleft c 25 ∗ R) ⊢ Q ⟨⟩) :
    iprop(Inv P κ ∗ Zleft c 21 ∗ R) ⊢ wp frame (wpE (defs₀ (F := F)) 𝒱₀ (c : Thread nD τ) none) Set.univ
      (k0_part12 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 hc) Q := by
  rw [k0_part12_eq_skeleton]; unfold k0_part12_skel
  simp only [Prog.lift, Prog.bind_op, Prog.bind_ret, Prog.pure_eq_ret]
  refine stepZ P κ c 21 R _ (by exact sem_eq _ _ _ _ (by decide +kernel)) (row_credit _ _) ?_
  refine stepZ P κ c 22 R _ (by exact sem_eq _ _ _ _ (by decide +kernel)) (row_credit _ _) ?_
  refine stepZ P κ c 23 R _ (by exact sem_eq _ _ _ _ (by decide +kernel)) (row_credit _ _) ?_
  refine stepZ P κ c 24 R _ (by exact sem_eq _ _ _ _ (by decide +kernel)) (row_credit _ _) ?_
  exact wp_done h

theorem part13_wp {R : sProp 𝕄} {v26 v30 : BitVec 32} {hc : k0_cond11 i = 1#1} {Q : PUnit → sProp 𝕄} (h : iprop(Inv P κ ∗ Zleft c 29 ∗ R) ⊢ Q ⟨⟩) :
    iprop(Inv P κ ∗ Zleft c 25 ∗ R) ⊢ wp frame (wpE (defs₀ (F := F)) 𝒱₀ (c : Thread nD τ) none) Set.univ
      (k0_part13 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v26 v30 hc) Q := by
  rw [k0_part13_eq_skeleton]; unfold k0_part13_skel
  simp only [Prog.lift, Prog.bind_op, Prog.bind_ret, Prog.pure_eq_ret]
  refine stepZ P κ c 25 R _ (by exact sem_eq _ _ _ _ (by decide +kernel)) (row_credit _ _) ?_
  refine stepZ P κ c 26 R _ (by exact sem_eq _ _ _ _ (by decide +kernel)) (row_credit _ _) ?_
  refine stepZ P κ c 27 R _ (by exact sem_eq _ _ _ _ (by decide +kernel)) (row_credit _ _) ?_
  refine stepZ P κ c 28 R _ (by exact sem_eq _ _ _ _ (by decide +kernel)) (row_credit _ _) ?_
  exact wp_done h

end

end Cert.LnProof
-- ==== Proof.Step.lean ====
/-
  One step of the kernel up to its arithmetic: waiting for the step's row block, passing it on, and the copy of the block into
  vector memory.
-/
module

public import proofs.«01_k».proof.Proof.Parts

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (P : Dev nD → PVal F) (κ : GSem nD τ sig → ℕ)

/-! ## The state between steps -/

/-- The transfers to a device not yet waited for before step `t`. -/
def Rset (t : ℕ) : Finset (Fin 32) := Finset.univ.filter fun j => t ≤ j.val

/-- Before the wait of step `t`. -/
def Wtg (q : PosShare TreeShare) (c : Dev nD) (t : ℕ) : sProp 𝕄 :=
  iprop(SS P q c (Fset t) ∗ RR (F := F) c (Rset t) ∗ Owe c (Ow c (Fset t)))
/-- After it, with the transfers `D` still to be made, holding share `q'` of the received block. -/
def Got (q q' : PosShare TreeShare) (c : Dev nD) (t : Fin grid0.N) (D : Finset (Fin 32)) : sProp 𝕄 :=
  iprop(SS P q c D ∗ RR (F := F) c (Rset (t.val + 1)) ∗ Owe c (Ow c D) ∗ rowPts c (blk c (tj t)) q' (recvVal P c))

theorem Rset_mem : ∀ t : Fin grid0.N, tj t ∈ Rset t.val := by decide +kernel
theorem Rset_erase : ∀ t : Fin grid0.N, (Rset t.val).erase (tj t) = Rset (t.val + 1) := by decide +kernel
theorem levels (t : Fin grid0.N) : ∀ j ∈ Fset t.val, jlev (tj t) < jlev j := wait_levels (tj t)

theorem stepRecv (q : PosShare TreeShare) (c : Dev nD) (t : Fin grid0.N) (R : sProp 𝕄)
    (rS : DmaSem sig) (hrS : rS = rSem (tj t)) {sp sp' : Space} {s s' : Shape} {e e' : EltTy}
    {srcw : Memref sig .tc sp' s' e'} {dstw : Memref sig .tc sp s e} (hN : dstw.view.dmaCredit = N)
    {hsrc : srcw.view.WordExact} {hdst : dstw.view.WordExact}
    {α : Type} {Q : α → sProp 𝕄} {k : PUnit → Prog (TpuEff nD τ sig (Elt F) Λ₀ .tc) α}
    (h : iprop(Inv P κ ∗ Got P q fullShare c t (Fset t.val) ∗ R) ⊢ wp frame (wpE (defs₀ (F := F)) 𝒱₀ (c : Thread nD τ) none) Set.univ (k ⟨⟩) Q) :
    iprop(Inv P κ ∗ Wtg P q c t.val ∗ R)
      ⊢ wp frame (wpE (defs₀ (F := F)) 𝒱₀ (c : Thread nD τ) none) Set.univ (.op (.waitDma2 rS srcw dstw hsrc hdst) k) Q := by
  have hw := wp_recv P κ c (tj t) (Rset_mem t) (levels t) rS hrS hN (hsrc := hsrc) (hdst := hdst) (Q := Q) (k := k)
  rw [Rset_erase] at hw
  unfold rPay at hw
  unfold Got at h
  unfold Wtg
  iintro ⟨#HI, ⟨HS, HRR, Ho⟩, HR⟩
  iapply hw $$ [HRR Ho]
  · isplitr; · iexact HI
    isplitl [HRR] <;> iassumption
  iintro ⟨HRR, Ho, Hb⟩
  iapply h
  isplitr; · iexact HI
  isplitr [HR]
  · isplitl [HS]; · iexact HS
    isplitl [HRR]; · iexact HRR
    isplitl [Ho] <;> iassumption
  iexact HR

theorem stepF (q q' : PosShare TreeShare) (c : Dev nD) (t : Fin grid0.N) (j : Fin 32) (hj : ¬ isY j) (hs : srcStep j = tj t) {D : Finset (Fin 32)} (hD : j ∈ D)
    (R : sProp 𝕄)
    (n : Dev nD) (hn : n = nbr c j) (sS rS : DmaSem sig) (hsS : sS = sSem j) (hrS : rS = rSem j)
    (o : Fin 2 → ℕ) (ho : o = rowOff (blk c (tj t)))
    {inb : ∀ a, o a + S256x2048.size a ≤ S8192x2048.size a} {inb' : ∀ a, o a + S256x2048.size a ≤ S8192x2048.size a}
    {hsc : ((Memref.whole main_v41_1).slice (Rect.unit (s := S8192x2048) o S256x2048.size inb) (fun _ => rfl) : Memref sig (Dev.tc n : Thread nD τ).2.kind .hbm S256x2048 .f32).view.ref.isScScratch = false}
    {hsrc : ((Memref.whole main_v41_1).slice (Rect.unit (s := S8192x2048) o S256x2048.size inb') (fun _ => rfl) : Memref sig .tc .hbm S256x2048 .f32).view.WordExact}
    {hdst : ((Memref.whole main_v41_1).slice (Rect.unit (s := S8192x2048) o S256x2048.size inb) (fun _ => rfl) : Memref sig .tc .hbm S256x2048 .f32).view.WordExact}
    {hsem : DmaTarget.Typed .hbm (.dma rS) (.remote (Dev.tc n : Thread nD τ) ((Memref.whole main_v41_1).slice (Rect.unit (s := S8192x2048) o S256x2048.size inb) (fun _ => rfl) : Memref sig .tc .hbm S256x2048 .f32) (.dma sS) hsc)}
    {α : Type} {Q : α → sProp 𝕄} {k : PUnit → Prog (TpuEff nD τ sig (Elt F) Λ₀ .tc) α}
    (h : iprop(Inv P κ ∗ Got P q q'.right c t (D.erase j) ∗ R) ⊢ wp frame (wpE (defs₀ (F := F)) 𝒱₀ (c : Thread nD τ) none) Set.univ (k ⟨⟩) Q) :
    iprop(Inv P κ ∗ Got P q q' c t D ∗ R)
      ⊢ wp frame (wpE (defs₀ (F := F)) 𝒱₀ (c : Thread nD τ) none) Set.univ
              (.op (.enqueueDma ((Memref.whole main_v41_1).slice (Rect.unit (s := S8192x2048) o S256x2048.size inb') (fun _ => rfl) : Memref sig .tc .hbm S256x2048 .f32)
                (.remote (Dev.tc n : Thread nD τ) ((Memref.whole main_v41_1).slice (Rect.unit (s := S8192x2048) o S256x2048.size inb) (fun _ => rfl) : Memref sig .tc .hbm S256x2048 .f32) (.dma sS) hsc) (.dma rS) hsrc hdst hsem) k) Q := by
  have hw := wp_sendF P κ q q'.left c j hj hD n hn sS rS hsS hrS o o (by rw [hs]; exact ho) (by rw [hs]; exact ho) (inb := inb) (inb' := inb')
    (hsc := hsc) (hsrc := hsrc) (hdst := hdst) (hsem := hsem) (Q := Q) (k := k)
  rw [hs] at hw
  unfold Got at h ⊢
  iintro ⟨#HI, ⟨HS, HRR, Ho, Hb⟩, HR⟩
  ihave Hb' := (show (rowPts c (blk c (tj t)) q' (recvVal P c) : sProp 𝕄) ⊢ iprop(rowPts c (blk c (tj t)) q'.left (recvVal P c) ∗ rowPts c (blk c (tj t)) q'.right (recvVal P c))
    from (pointsTo_share (PosShare.mem_left_op_right q')).1) $$ Hb
  icases Hb' with ⟨Hb1, Hb2⟩
  iapply hw $$ [HS Ho Hb1]
  · isplitr; · iexact HI
    isplitl [HS]; · iexact HS
    isplitl [Ho] <;> iassumption
  iintro ⟨HS, Ho⟩
  iapply h
  isplitr; · iexact HI
  isplitr [HR]
  · isplitl [HS]; · iexact HS
    isplitl [HRR]; · iexact HRR
    isplitl [Ho] <;> iassumption
  iexact HR

/-! ## The copy of the step's block into vector memory -/

/-- The table the kernel is launched with: the row block of every step. -/
def tbl (c : Dev nD) : S32.Idx → Elt F .i32 := fun k => BitVec.ofNat 32 (blk c (k 0)).val
def tblPts (c : Dev nD) : sProp 𝕄 := ((c : Thread nD τ).loc main_v40) ↦{fullShare} (tbl (F := F) c)
abbrev cSem : DmaSem sig := cc0_scratch11.sem
def vecPts (c : Dev nD) (f : S256x2048.Idx → Elt F .f32) : sProp 𝕄 := ((c : Thread nD τ).loc cc0_scratch0) ↦{fullShare} f
/-- What `c` holds besides, between steps. -/
def Side (c : Dev nD) : sProp 𝕄 := iprop(tblPts c ∗ (∃ f, vecPts (F := F) c f) ∗ semVal ((c : Thread nD τ), .dma cSem) 0)
/-- The rows received for step `t`. -/
def rcv (c : Dev nD) (t : Fin grid0.N) : S256x2048.Idx → Elt F .f32 := (rowM (blk c (tj t))).view.read (Elt F) (recvVal P c)
/-- The same, once they have been copied. -/
def Side' (c : Dev nD) (t : Fin grid0.N) : sProp 𝕄 := iprop(tblPts c ∗ vecPts c (rcv P c t) ∗ semVal ((c : Thread nD τ), .dma cSem) 0)

theorem off23 : ∀ t : Fin grid0.N, k0_off23 (grid0.coords t) 0 = t.val := by decide +kernel
theorem off24 : ∀ b : Fin 32, k0_off24 (BitVec.ofNat 32 b.val) = rowOff b := by decide +kernel
theorem chk1 : ∀ b : Fin 32, k0_chk1 (BitVec.ofNat 32 b.val) := by decide +kernel

theorem tbl_read (c : Dev nD) (t : Fin grid0.N) (x) :
    (((Memref.whole main_v40 : Memref sig .tc .smem S32 .i32).access (Rect.unit (s := S32) (k0_off23 (grid0.coords t)) S1.size (k0_off23_inb (grid0.coords t)))).read (Elt F) (tbl c) x : BitVec 32)
      = BitVec.ofNat 32 (blk c (tj t)).val := by
  show BitVec.ofNat 32 (blk c _).val = _
  congr 3
  apply Fin.ext
  show k0_off23 (grid0.coords t) 0 + _ * (x 0).val = t.val
  rw [off23]
  have h0 : (x 0).val < 1 := (x 0).isLt
  rw [show (x 0).val = 0 by omega]; rfl

theorem cSem_lev : lev cSem.val = 0 := by decide +kernel

theorem wp_copy (c : Dev nD) (b : Fin 32) (q' : PosShare TreeShare) (f : RVal F) (D : Finset (Fin 32)) (o : Fin 2 → ℕ) (ho : o = rowOff b)
    {inb inb' : ∀ a, o a + S256x2048.size a ≤ S8192x2048.size a}
    {hsrc : ((Memref.whole main_v41_1).slice (Rect.unit (s := S8192x2048) o S256x2048.size inb) (fun _ => rfl) : Memref sig .tc .hbm S256x2048 .f32).view.WordExact}
    {hsrc' : ((Memref.whole main_v41_1).slice (Rect.unit (s := S8192x2048) o S256x2048.size inb') (fun _ => rfl) : Memref sig .tc .hbm S256x2048 .f32).view.WordExact}
    {hdst hdst' : (Memref.whole cc0_scratch0 : Memref sig .tc .vmem S256x2048 .f32).view.WordExact}
    {hsem : DmaTarget.Typed (nD := nD) (τ := τ) (p := (c : Thread nD τ).2) .hbm (.dma cSem) (.here (Memref.whole cc0_scratch0 : Memref sig .tc .vmem S256x2048 .f32))}
    {α : Type} {Q : α → sProp 𝕄} {k : PUnit → Prog (TpuEff nD τ sig (Elt F) Λ₀ .tc) α} :
    iprop(Inv P κ ∗ rowPts c b q' f ∗ (∃ fd, vecPts c fd) ∗ semVal ((c : Thread nD τ), .dma cSem) 0 ∗ Owe c (Ow c D))
      ⊢ iprop(((vecPts c ((rowM b).view.read (Elt F) f) ∗ semVal ((c : Thread nD τ), .dma cSem) 0 ∗ Owe c (Ow c D)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole main_v41_1).slice (Rect.unit (s := S8192x2048) o S256x2048.size inb) (fun _ => rfl) : Memref sig .tc .hbm S256x2048 .f32)
                (.here (Memref.whole cc0_scratch0)) (.dma cSem) hsrc hdst hsem) fun _ =>
                .op (.waitDma2 cSem ((Memref.whole main_v41_1).slice (Rect.unit (s := S8192x2048) o S256x2048.size inb') (fun _ => rfl) : Memref sig .tc .hbm S256x2048 .f32)
                  (Memref.whole cc0_scratch0 : Memref sig .tc .vmem S256x2048 .f32) hsrc' hdst') k) Q) := by
  subst ho
  unfold Owe rowPts vecPts
  iintro ⟨#HI, Hb, ⟨%fd, Hv⟩, Hs, ⟨%W, Ho⟩⟩ Hk
  iapply (Transfers.wp_dmaLocal EC 𝒱₀ (c : Thread nD τ) none (src := rowM b) (dst := (Memref.whole cc0_scratch0 : Memref sig .tc .vmem S256x2048 .f32)) (sm := .dma cSem)
    (fs := f) (fd := fd) (Sd := Finset.univ) () _ rfl (View.dmaCredit_pos _ (by decide)) (Finset.subset_univ _)) $$ [Hb Hv Hs]
  · isplitl [Hb]; · iexact Hb
    isplitl [Hv] <;> iassumption
  iintro Hf
  iapply (Transfers.wp_waitLocalO EC 𝒱₀ (c : Thread nD τ) none () rfl) $$ [Hf Ho]
  · isplitl [Hf]; · iexact Hf
    isplitl [Ho]; · iexact Ho
    iapply (mayWait_dma c cSem D (fun j _ => by rw [cSem_lev]; have := jlev_pos j; omega)); iapply (Inv_lev P κ); iexact HI
  iintro ⟨⟨Hv, -⟩, Hs, Ho⟩
  iapply Hk
  isplitl [Hv]
  · iapply (Entails.of_eq (show _ = _ from congrArg (fun g => (((c : Thread nD τ).loc cc0_scratch0) ↦{fullShare} g : sProp 𝕄)) (View.write_whole_univ cc0_scratch0 fd ((rowM b).view.read (Elt F) f)))) $$ Hv
  isplitl [Hs]; · iexact Hs
  iexists _; iexact Ho

/-- The end of the step's transfers, and its copy. -/
theorem tail_wp (q q' : PosShare TreeShare) (c : Dev nD) (t : Fin grid0.N) (D : Finset (Fin 32)) {α : Type} {r : α} {Q : α → sProp 𝕄} (R : sProp 𝕄)
  {h8 : (Memref.whole cc0_scratch0 : Memref sig .tc .vmem S256x2048 .f32).IsWhole}
    {hp : EltTy.i32.packing = 1}
    (h : iprop(Inv P κ ∗ (SS P q c D ∗ RR (F := F) c (Rset (t.val + 1)) ∗ Owe c (Ow c D)) ∗ Side' P c t ∗ R) ⊢ Q r) :
    iprop(Inv P κ ∗ Got P q q' c t D ∗ Side c ∗ R) ⊢ wp frame (wpE (defs₀ (F := F)) 𝒱₀ (c : Thread nD τ) none) Set.univ
      (smemLoad (Memref.whole main_v40 : Memref sig .tc .smem S32 .i32) (Rect.unit (s := S32) (k0_off23 (grid0.coords t)) S1.size (k0_off23_inb (grid0.coords t))) numel1_S1 hp >>= fun v60 =>
        Prog.op (TpuEff.assume (k0_chk1 v60) (k0_chk1.dec v60)) fun hw =>
        Prog.op (TpuEff.enqueueDma ((Memref.whole main_v41_1 : Memref sig .tc .hbm S8192x2048 .f32).slice (Rect.unit (s := S8192x2048) (k0_off24 v60) S256x2048.size (k0_off24_inb v60 hw.down)) (fun _ => rfl))
            (.here (Memref.whole cc0_scratch0)) (.dma cc0_scratch11.sem) (View.wordExact_bits rfl) h8.wordExact ⟨Or.inl rfl, trivial⟩) fun _ =>
        Prog.op (TpuEff.waitDma2 cc0_scratch11.sem ((Memref.whole main_v41_1 : Memref sig .tc .hbm S8192x2048 .f32).slice (Rect.unit (s := S8192x2048) (k0_off24 v60) S256x2048.size (k0_off24_inb v60 hw.down)) (fun _ => rfl))
            (Memref.whole cc0_scratch0) (View.wordExact_bits rfl) h8.wordExact) fun _ => Prog.ret r) Q := by
  rw [wp_bind]
  unfold smemLoad Side
  iintro ⟨#HI, HG, ⟨Ht, ⟨%f, Hv⟩, Hs⟩, HR⟩
  unfold tblPts
  iapply (wp_smemLoadElt_named 𝒱₀ (c : Thread nD τ) none Set.univ (m := Memref.whole main_v40) (q := fullShare) (f := tbl c) (S := Finset.univ)) $$ Ht
  iintro Ht
  iintro %w %hw
  have hw' : w = BitVec.ofNat 32 (blk c (tj t)).val := hw.trans (tbl_read c t _)
  subst hw'
  rw [wp_ret]
  imodintro
  iapply (wp_assume 𝒱₀ (c : Thread nD τ) none Set.univ (chk1 _))
  unfold Got
  icases HG with ⟨HS, HRR, Ho, Hb⟩
  iapply (wp_copy P κ c (blk c (tj t)) q' (recvVal P c) D _ (off24 _)) $$ [Hb Hv Hs Ho]
  · isplitr; · iexact HI
    isplitl [Hb]; · iexact Hb
    isplitl [Hv]; · iexists f; iexact Hv
    isplitl [Hs] <;> iassumption
  iintro ⟨Hv, Hs, Ho⟩
  iapply (wp_done h)
  isplitr; · iexact HI
  isplitl [HS HRR Ho]
  · isplitl [HS]; · iexact HS
    isplitl [HRR] <;> iassumption
  isplitr [HR]
  · unfold Side' tblPts
    isplitl [Ht]; · iexact Ht
    isplitl [Hv]; · unfold rcv; iexact Hv
    iexact Hs
  iexact HR

end Cert.LnProof
-- ==== Proof.Steps.lean ====
/-
  The kernel's part before its arithmetic, at every step: the first step greets the neighbours and sends the device's own rows; the
  later ones wait for their block and pass it on.
-/
module

public import proofs.«01_k».proof.Proof.Step

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (P : Dev nD → PVal F) (κ : GSem nD τ sig → ℕ)

theorem bind_step {c : Dev nD} {α β : Type} {p : Prog (TpuEff nD τ sig (Elt F) Λ₀ .tc) α} {k : α → Prog (TpuEff nD τ sig (Elt F) Λ₀ .tc) β} {A : sProp 𝕄}
    {Q : β → sProp 𝕄}
    (h : A ⊢ wp frame (wpE (defs₀ (F := F)) 𝒱₀ (c : Thread nD τ) none) Set.univ p (fun a => wp frame (wpE (defs₀ (F := F)) 𝒱₀ (c : Thread nD τ) none) Set.univ (k a) Q)) :
    A ⊢ wp frame (wpE (defs₀ (F := F)) 𝒱₀ (c : Thread nD τ) none) Set.univ (p >>= k) Q := by
  rw [wp_bind]; exact h

/-! ## Which transfer a step makes -/

/-- The transfer made `n` steps ahead of its wait. -/
def fj (t : Fin grid0.N) (n : ℕ) : Fin 32 := Fin.ofNat 32 (t.val + n)

theorem f16 : ∀ t : Fin grid0.N, t.val < 8 ∨ (11 ≤ t.val ∧ t.val < 14) → ¬ isY (fj t 16) ∧ isX (fj t 16) ∧ srcStep (fj t 16) = tj t ∧ fj t 16 ∈ Fset t.val := by decide +kernel
theorem f8 : ∀ t : Fin grid0.N, t.val < 8 → fj t 8 ∈ (Fset t.val).erase (fj t 16) := by decide +kernel
theorem f8' : ∀ t : Fin grid0.N, t.val < 8 ∨ (22 ≤ t.val ∧ t.val < 24) → ¬ isY (fj t 8) ∧ isZ (fj t 8) ∧ srcStep (fj t 8) = tj t ∧ fj t 8 ∈ Fset t.val := by decide +kernel
theorem Fset_fst : ∀ t : Fin grid0.N, t.val < 8 → ((Fset t.val).erase (fj t 16)).erase (fj t 8) = Fset (t.val + 1) := by decide +kernel
theorem Fset_snd : ∀ t : Fin grid0.N, (11 ≤ t.val ∧ t.val < 14) → (Fset t.val).erase (fj t 16) = Fset (t.val + 1) := by decide +kernel
theorem Fset_trd : ∀ t : Fin grid0.N, (22 ≤ t.val ∧ t.val < 24) → (Fset t.val).erase (fj t 8) = Fset (t.val + 1) := by decide +kernel
theorem Fset_same : ∀ t : Fin grid0.N, 8 ≤ t.val → ¬ (11 ≤ t.val ∧ t.val < 14) → ¬ (22 ≤ t.val ∧ t.val < 24) → Fset t.val = Fset (t.val + 1) := by decide +kernel

theorem sm6 : ∀ t : Fin grid0.N, t.val < 8 → 18 + k0_off6 (grid0.coords t) 0 = (rSem (tj t)).val := by decide +kernel
theorem sm8xs : ∀ t : Fin grid0.N, t.val < 8 → 29 + k0_off8 (grid0.coords t) 0 = (sSem (fj t 16)).val := by decide +kernel
theorem sm8xr : ∀ t : Fin grid0.N, t.val < 8 → 37 + k0_off8 (grid0.coords t) 0 = (rSem (fj t 16)).val := by decide +kernel
theorem sm8zs : ∀ t : Fin grid0.N, t.val < 8 → 45 + k0_off8 (grid0.coords t) 0 = (sSem (fj t 8)).val := by decide +kernel
theorem sm8zr : ∀ t : Fin grid0.N, t.val < 8 → 53 + k0_off8 (grid0.coords t) 0 = (rSem (fj t 8)).val := by decide +kernel
theorem sm9 : ∀ t : Fin grid0.N, 8 ≤ t.val ∧ t.val < 16 → 53 + k0_off9 (grid0.coords t) 0 = (rSem (tj t)).val := by decide +kernel
theorem sm11s : ∀ t : Fin grid0.N, 11 ≤ t.val ∧ t.val < 14 → 61 + k0_off11 (grid0.coords t) 0 = (sSem (fj t 16)).val := by decide +kernel
theorem sm11r : ∀ t : Fin grid0.N, 11 ≤ t.val ∧ t.val < 14 → 64 + k0_off11 (grid0.coords t) 0 = (rSem (fj t 16)).val := by decide +kernel
theorem sm13 : ∀ t : Fin grid0.N, 16 ≤ t.val ∧ t.val < 24 → 37 + k0_off13 (grid0.coords t) 0 = (rSem (tj t)).val := by decide +kernel
theorem sm15s : ∀ t : Fin grid0.N, 22 ≤ t.val ∧ t.val < 24 → 67 + k0_off15 (grid0.coords t) 0 = (sSem (fj t 8)).val := by decide +kernel
theorem sm15r : ∀ t : Fin grid0.N, 22 ≤ t.val ∧ t.val < 24 → 69 + k0_off15 (grid0.coords t) 0 = (rSem (fj t 8)).val := by decide +kernel
theorem sm17 : ∀ t : Fin grid0.N, 24 ≤ t.val ∧ t.val < 27 → 18 + k0_off17 (grid0.coords t) 0 = (rSem (tj t)).val := by decide +kernel
theorem sm19 : ∀ t : Fin grid0.N, 27 ≤ t.val ∧ t.val < 30 → 64 + k0_off19 (grid0.coords t) 0 = (rSem (tj t)).val := by decide +kernel
theorem sm21 : ∀ t : Fin grid0.N, 30 ≤ t.val → 69 + k0_off21 (grid0.coords t) 0 = (rSem (tj t)).val := by decide +kernel

/-! ## The first step's meeting -/

/-- What `c` greets its neighbour of kind `d` with. -/
def Hail (c : Dev nD) (d : Fin 3) : sProp 𝕄 := iprop(dutyTok ER (bCell (dn c d)) 0 d ∗ reached ER (bCell (dn c d)) 0 ∗ Give c d)
/-- What `c` starts with. -/
def Start (q : PosShare TreeShare) (c : Dev nD) : sProp 𝕄 :=
  iprop((Hail c 0 ∗ Hail c 1 ∗ Hail c 2) ∗ atPos (ER (F := F)) (bCell c) 0 ∅ 0 ∗ cred (tallyAt (bCell c) () 3)
    ∗ bigSep Finset.univ (fun j : Fin 32 => Tok P q c j) ∗ Owe c (Ow c Finset.univ + Ob c Finset.univ))

theorem SS_start (q : PosShare TreeShare) (c : Dev nD) :
    iprop(bigSep Finset.univ (fun j : Fin 32 => Tok P q c j) ∗ bigSep Finset.univ (fun j : Fin 32 => Own (F := F) (nbr c j) j)) ⊢ SS P q c Finset.univ := by
  unfold SS
  rw [← bigSep_sep']
  exact bigSep_mono fun j _ => by rw [if_pos (Finset.mem_univ j)]; exact BI.Entails.refl _

section
variable (q : PosShare TreeShare) (c : Dev nD)
  {h1 : (Memref.whole main_v40 : Memref sig .tc .smem S32 .i32).IsWhole} {h2 : (Memref.whole main_arg0 : Memref sig .tc .hbm S1x8192x2048 .f32).IsWhole}
  {a3 : Memref sig .tc .vmem S1x256x2048 .f32} {h3 : a3.IsWhole} {a4 : Memref sig .tc .vmem S256x2048 .f32} {h4 : a4.IsWhole}
  {a5 : Memref sig .tc .vmem S1x2048 .f32} {h5 : a5.IsWhole} {a6 : Memref sig .tc .vmem S256x2048 .f32} {h6 : a6.IsWhole}
  {h7 : (Memref.whole main_v41_1 : Memref sig .tc .hbm S8192x2048 .f32).IsWhole} {h8 : (Memref.whole cc0_scratch0 : Memref sig .tc .vmem S256x2048 .f32).IsWhole}

theorem part1_wp (i : grid0.Coords) {R : sProp 𝕄} {v2 v5 v8 v19 v20 v23 v26 : BitVec 32} {hc : k0_cond1 i = 1#1} {Q : PUnit → sProp 𝕄}
    (h : iprop(Inv P κ ∗ Ysent P q c 0 ∗ semVal (bCell c) 0 ∗ R) ⊢ Q ⟨⟩) :
    iprop(Inv P κ ∗ Start P q c ∗ R) ⊢ wp frame (wpE (defs₀ (F := F)) 𝒱₀ (c : Thread nD τ) none) Set.univ
      (k0_part1 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        c v2 v5 v8 v19 v20 v23 v26 hc) Q := by
  rw [k0_part1_eq_skeleton]; unfold k0_part1_skel
  simp only [semSignalWord, semWaitWord, Prog.lift, Prog.bind_op, Prog.bind_ret, Prog.pure_eq_ret]
  unfold Start Hail
  iintro ⟨#HI, ⟨⟨⟨Ht0, #Hr0, Hg0⟩, ⟨Ht1, #Hr1, Hg1⟩, ⟨Ht2, #Hr2, Hg2⟩⟩, Hat, Hc, HT, Ho⟩, HR⟩
  iapply (wp_greet P κ c 0 (Finset.mem_univ _) _ (Fin.ext (dev1 c))) $$ [Ho Ht0 Hg0]
  · isplitr; · iexact HI
    isplitl [Ho]; · iexact Ho
    isplitl [Ht0]; · iexact Ht0
    isplitr; · iexact Hr0
    iexact Hg0
  iintro Ho
  iapply (wp_greet P κ c 1 (B := (Finset.univ : Finset (Fin 3)).erase 0) (by decide) _ (Fin.ext (dev2 c))) $$ [Ho Ht1 Hg1]
  · isplitr; · iexact HI
    isplitl [Ho]; · iexact Ho
    isplitl [Ht1]; · iexact Ht1
    isplitr; · iexact Hr1
    iexact Hg1
  iintro Ho
  iapply (wp_greet P κ c 2 (B := ((Finset.univ : Finset (Fin 3)).erase 0).erase 1) (by decide) _ (Fin.ext (dev3 c))) $$ [Ho Ht2 Hg2]
  · isplitr; · iexact HI
    isplitl [Ho]; · iexact Ho
    isplitl [Ht2]; · iexact Ht2
    isplitr; · iexact Hr2
    iexact Hg2
  iintro Ho
  rw [show ((((Finset.univ : Finset (Fin 3)).erase 0).erase 1).erase 2) = ∅ by decide, Ob_empty, add_zero]
  iapply (wp_meet P κ c) $$ [Ho Hc Hat]
  · isplitr; · iexact HI
    isplitl [Ho]; · iexact Ho
    isplitl [Hc] <;> iassumption
  iintro ⟨Ho, Hs, HO⟩
  iapply (wp_done h)
  isplitr; · iexact HI
  isplitr [Hs HR]
  · unfold Ysent
    isplitr [Ho]
    · iapply (SS_start P q c)
      isplitl [HT] <;> iassumption
    · iexact Ho
  isplitl [Hs] <;> iassumption

theorem part6_wp (t : Fin grid0.N) (ht : t.val < 8) {R : sProp 𝕄} {arg0 v2 v5 v8 v19 v20 v26 : BitVec 32} {hc : k0_cond2 (grid0.coords t) = 1#1}
    {Q : (r : Σ' (_ : BitVec 32), BitVec 32) → sProp 𝕄}
    (h : ∀ r, iprop(Inv P κ ∗ Got P q (fullShare : PosShare TreeShare).right c t ((Fset t.val).erase (fj t 16)) ∗ R) ⊢ Q r) :
    iprop(Inv P κ ∗ Wtg P q c t.val ∗ R) ⊢ wp frame (wpE (defs₀ (F := F)) 𝒱₀ (c : Thread nD τ) none) Set.univ
      (k0_part6 (grid0.coords t) (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        arg0 c v2 v5 v8 v19 v20 v26 hc) Q := by
  rw [k0_part6_eq_skeleton]; unfold k0_part6_skel
  simp only [Prog.lift, Prog.bind_op, Prog.bind_ret, Prog.pure_eq_ret]
  refine stepRecv P κ q c t R _ (by exact sem_eq _ _ _ _ (sm6 t ht)) (row_credit _ _) ?_
  have hf := f16 t (.inl ht)
  refine stepF P κ q fullShare c t (fj t 16) hf.1 hf.2.2.1 hf.2.2.2 R _ ((Fin.ext (dev15 c)).trans (nbr_x hf.2.1 c).symm) _ _
    (by exact sem_eq _ _ _ _ (sm8xs t ht)) (by exact sem_eq _ _ _ _ (sm8xr t ht)) _ (off7 c t ht) ?_
  exact wp_done (h _)

theorem part15_wp (t : Fin grid0.N) (ht : t.val ≠ 0) {R : sProp 𝕄} {arg0 v2 v5 v8 v18 v19 v20 v23 v26 v30 v33 w : BitVec 32}
    {Q : (r : Σ' (_ : BitVec 32), BitVec 32) → sProp 𝕄}
    (h : ∀ r, iprop(Inv P κ ∗ Wtg P q c (t.val + 1) ∗ Side' P c t ∗ R) ⊢ Q r) :
    iprop(Inv P κ ∗ Wtg P q c t.val ∗ Side c ∗ R) ⊢ wp frame (wpE (defs₀ (F := F)) 𝒱₀ (c : Thread nD τ) none) Set.univ
      (k0_part15 (grid0.coords t) (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        arg0 c v2 v5 v8 v18 v19 v20 v23 v26 v30 v33 w) Q := by
  unfold Wtg at h
  rw [k0_part15_eq_skeleton]; unfold k0_part15_skel
  simp only [Prog.lift, Prog.bind_op, Prog.bind_ret, Prog.pure_eq_ret]
  rw [dif_neg (by rw [cond1]; exact ht)]
  by_cases k8 : t.val < 8
  · rw [dif_pos ((cond2 t).2 k8)]
    refine bind_step (part6_wp P κ q c t k8 fun _ => ?_)
    have hf := f8' t (.inl k8)
    refine stepF P κ q _ c t (fj t 8) hf.1 hf.2.2.1 (f8 t k8) _ _ ((Fin.ext (dev16 c)).trans (nbr_z hf.2.1 c).symm) _ _
      (by exact sem_eq _ _ _ _ (sm8zs t k8)) (by exact sem_eq _ _ _ _ (sm8zr t k8)) _ (off7 c t k8) ?_
    rw [dif_neg (by rw [cond3]; omega), dif_neg (by rw [cond5]; omega), dif_neg (by rw [cond7]; omega), Fset_fst t k8]
    exact tail_wp P κ q _ c t _ R (h8 := h8) (h _)
  rw [dif_neg (by rw [cond2]; omega)]
  by_cases k16 : t.val < 16
  · have k : 8 ≤ t.val ∧ t.val < 16 := by omega
    rw [dif_pos ((cond3 t).2 k)]
    refine stepRecv P κ q c t _ _ (by exact sem_eq _ _ _ _ (sm9 t k)) (row_credit _ _) ?_
    by_cases k4 : 11 ≤ t.val ∧ t.val < 14
    · rw [dif_pos ((cond4 t k).2 k4)]
      have hf := f16 t (.inr k4)
      refine stepF P κ q _ c t (fj t 16) hf.1 hf.2.2.1 hf.2.2.2 _ _ ((Fin.ext (dev17 c)).trans (nbr_x hf.2.1 c).symm) _ _
        (by exact sem_eq _ _ _ _ (sm11s t k4)) (by exact sem_eq _ _ _ _ (sm11r t k4)) _ (off12 c t k4) ?_
      rw [dif_neg (by rw [cond5]; omega), dif_neg (by rw [cond7]; omega), Fset_snd t k4]
      exact tail_wp P κ q _ c t _ R (h8 := h8) (h _)
    · rw [dif_neg (by rw [cond4 t k]; exact k4), dif_neg (by rw [cond5]; omega), dif_neg (by rw [cond7]; omega),
        Fset_same t (by omega) k4 (by omega)]
      exact tail_wp P κ q _ c t _ R (h8 := h8) (h _)
  rw [dif_neg (by rw [cond3]; omega)]
  by_cases k24 : t.val < 24
  · have k : 16 ≤ t.val ∧ t.val < 24 := by omega
    rw [dif_pos ((cond5 t).2 k)]
    refine stepRecv P κ q c t _ _ (by exact sem_eq _ _ _ _ (sm13 t k)) (row_credit _ _) ?_
    by_cases k6 : 22 ≤ t.val
    · have k6' : 22 ≤ t.val ∧ t.val < 24 := by omega
      rw [dif_pos ((cond6 t k).2 k6)]
      have hf := f8' t (.inr k6')
      refine stepF P κ q _ c t (fj t 8) hf.1 hf.2.2.1 hf.2.2.2 _ _ ((Fin.ext (dev18 c)).trans (nbr_z hf.2.1 c).symm) _ _
        (by exact sem_eq _ _ _ _ (sm15s t k6')) (by exact sem_eq _ _ _ _ (sm15r t k6')) _ (off16 c t k6') ?_
      rw [dif_neg (by rw [cond7]; omega), Fset_trd t k6']
      exact tail_wp P κ q _ c t _ R (h8 := h8) (h _)
    · rw [dif_neg (by rw [cond6 t k]; exact k6), dif_neg (by rw [cond7]; omega), Fset_same t (by omega) (by omega) (by omega)]
      exact tail_wp P κ q _ c t _ R (h8 := h8) (h _)
  have k : 24 ≤ t.val := by omega
  rw [dif_neg (by rw [cond5]; omega), dif_pos ((cond7 t).2 k)]
  have hF : Fset t.val = Fset (t.val + 1) := Fset_same t (by omega) (by omega) (by omega)
  by_cases k27 : t.val < 27
  · rw [dif_pos ((cond8 t k).2 k27)]
    refine stepRecv P κ q c t _ _ (by exact sem_eq _ _ _ _ (sm17 t ⟨k, k27⟩)) (row_credit _ _) ?_
    rw [dif_neg (by rw [cond9 t k]; omega), dif_neg (by rw [cond10 t k]; omega), hF]
    exact tail_wp P κ q _ c t _ R (h8 := h8) (h _)
  rw [dif_neg (by rw [cond8 t k]; omega)]
  by_cases k30 : t.val < 30
  · have k9 : 27 ≤ t.val ∧ t.val < 30 := by omega
    rw [dif_pos ((cond9 t k).2 k9)]
    refine stepRecv P κ q c t _ _ (by exact sem_eq _ _ _ _ (sm19 t k9)) (row_credit _ _) ?_
    rw [dif_neg (by rw [cond10 t k]; omega), hF]
    exact tail_wp P κ q _ c t _ R (h8 := h8) (h _)
  rw [dif_neg (by rw [cond9 t k]; omega), dif_pos ((cond10 t k).2 (by omega))]
  refine stepRecv P κ q c t _ _ (by exact sem_eq _ _ _ _ (sm21 t (by omega))) (row_credit _ _) ?_
  rw [hF]
  exact tail_wp P κ q _ c t _ R (h8 := h8) (h _)

theorem fst_wtg (t : Fin grid0.N) (ht : t.val = 0) {R : sProp 𝕄} :
    iprop(Inv P κ ∗ Ysent P q c ((10 : Fin 11).val + 1) ∗ semVal (bCell c) 0 ∗ RR (F := F) c (Rset t.val) ∗ Side c ∗ R)
      ⊢ iprop(Inv P κ ∗ Wtg P q c t.val ∗ Side c ∗ semVal (bCell c) 0 ∗ R) := by
  rw [ht]
  unfold Ysent Wtg
  rw [show yD ((10 : Fin 11).val + 1) = Fset 0 from yD_done]
  iintro ⟨#HI, ⟨HS, Ho⟩, Hb, HRR, HSd, HR⟩
  isplitr; · iexact HI
  isplitl [HS HRR Ho]
  · isplitl [HS]; · iexact HS
    isplitl [HRR] <;> iassumption
  isplitl [HSd]; · iexact HSd
  isplitl [Hb] <;> iassumption

/-- The first step. -/
theorem part15_fst (t : Fin grid0.N) (ht : t.val = 0) {R : sProp 𝕄} {arg0 v2 v5 v8 v18 v19 v20 v23 v26 v30 v33 w : BitVec 32}
    {Q : (r : Σ' (_ : BitVec 32), BitVec 32) → sProp 𝕄}
    (h : ∀ r, iprop(Inv P κ ∗ Wtg P q c (t.val + 1) ∗ Side' P c t ∗ semVal (bCell c) 0 ∗ R) ⊢ Q r) :
    iprop(Inv P κ ∗ Start P q c ∗ RR (F := F) c (Rset t.val) ∗ Side c ∗ R) ⊢ wp frame (wpE (defs₀ (F := F)) 𝒱₀ (c : Thread nD τ) none) Set.univ
      (k0_part15 (grid0.coords t) (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        arg0 c v2 v5 v8 v18 v19 v20 v23 v26 v30 v33 w) Q := by
  unfold Wtg at h
  rw [k0_part15_eq_skeleton]; unfold k0_part15_skel
  simp only [Prog.lift, Prog.bind_op, Prog.bind_ret, Prog.pure_eq_ret]
  rw [dif_pos ((cond1 t).2 ht)]
  refine bind_step (part1_wp P κ q c _ ?_)
  refine (show iprop(Inv P κ ∗ Ysent P q c 0 ∗ semVal (bCell c) 0 ∗ RR (F := F) c (Rset t.val) ∗ Side c ∗ R)
    ⊢ iprop(Inv P κ ∗ Ysent P q c 0 ∗ (semVal (bCell c) 0 ∗ RR (F := F) c (Rset t.val) ∗ Side c ∗ R)) from BI.Entails.refl _).trans ?_
  refine bind_step (part2_wp P κ q c _ ?_)
  refine bind_step (part3_wp P κ q c _ ?_)
  refine bind_step (part4_wp P κ q c _ ?_)
  refine bind_step (part5_wp P κ q c _ fun _ => ?_)
  refine stepY P κ q c 10 _ _ (Fin.ext (dev14 c)) _ _ (by exact sem_eq _ _ _ _ (by decide +kernel)) (by exact sem_eq _ _ _ _ (by decide +kernel)) _ (off4 c 2) _ (off5 c 2) ?_
  have k8 : t.val < 8 := by omega
  rw [dif_pos ((cond2 t).2 k8)]
  refine (fst_wtg P κ q c t ht).trans ?_
  refine bind_step (part6_wp P κ q c t k8 fun _ => ?_)
  have hf := f8' t (.inl k8)
  refine stepF P κ q _ c t (fj t 8) hf.1 hf.2.2.1 (f8 t k8) _ _ ((Fin.ext (dev16 c)).trans (nbr_z hf.2.1 c).symm) _ _
    (by exact sem_eq _ _ _ _ (sm8zs t k8)) (by exact sem_eq _ _ _ _ (sm8zr t k8)) _ (off7 c t k8) ?_
  rw [dif_neg (by rw [cond3]; omega), dif_neg (by rw [cond5]; omega), dif_neg (by rw [cond7]; omega), Fset_fst t k8]
  exact tail_wp P κ q _ c t _ _ (h8 := h8) (h _)
end

end Cert.LnProof
-- ==== Proof.Body.lean ====
/-
  The kernel's whole body, one step of the grid: what the device holds before and after it, and what the step leaves in the block it
  writes.
-/
module

public import proofs.«01_k».proof.Proof.Steps

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (P : Dev nD → PVal F) (κ : GSem nD τ sig → ℕ)

/-! ## Loads and stores of a whole staging buffer -/

theorem unit_emb {s : Shape} {off : Fin s.rank → ℕ} (h : off = fun _ => 0) (inb : ∀ a, off a + s.size a ≤ s.size a) (x : s.Idx) :
    (Rect.unit (s := s) off s.size inb).emb x = x := by
  subst h
  exact Rect.emb_whole_apply _ x

theorem wp_load_full {c : Dev nD} {s : Shape} {e : EltTy} {m : Memref sig .tc .vmem s e} {off : Fin s.rank → ℕ} (h : off = fun _ => 0)
    {inb : ∀ a, off a + s.size a ≤ s.size a} {hl : m.view.LoadsAt (Rect.unit (s := s) off s.size inb).toLoadRect}
    {q : PosShare TreeShare} {X : s.Idx → Elt F e} {α : Type} {Q : α → sProp 𝕄}
    {k : (s.Idx → Elt F e) → Prog (TpuEff nD τ sig (Elt F) Λ₀ .tc) α} :
    (owns (c : Thread nD τ) m q X : sProp 𝕄) ⊢ iprop((owns (c : Thread nD τ) m q X -∗ wp frame (wpE (defs₀ (F := F)) 𝒱₀ (c : Thread nD τ) none) Set.univ (k X) Q)
      -∗ wp frame (wpE (defs₀ (F := F)) 𝒱₀ (c : Thread nD τ) none) Set.univ (.op (.load m (Rect.unit (s := s) off s.size inb).toLoadRect hl) k) Q) := by
  unfold owns
  iintro ⟨%f, %hf, H⟩ Hk
  have hX : m.view.readAt (Elt F) (Rect.unit (s := s) off s.size inb).toLoadRect f = X := by
    rw [← hf, View.readAt_rect]
    funext x
    show m.view.read (Elt F) f ((Rect.unit (s := s) off s.size inb).emb x) = _
    rw [unit_emb h inb x]
  iapply (wp_load (defs := defs₀ (F := F)) 𝒱₀ (c : Thread nD τ) none Set.univ (m := m) (r := (Rect.unit (s := s) off s.size inb).toLoadRect) (S := m.view.set) (View.setOn_subset_set _ _)) $$ H
  iintro H
  rw [hX]
  iapply Hk
  iexists f
  isplitr; · ipureintro; exact hf
  iexact H

theorem wp_store_full {c : Dev nD} {s : Shape} {e : EltTy} {m : Memref sig .tc .vmem s e} {off : Fin s.rank → ℕ} (h : off = fun _ => 0)
    {inb : ∀ a, off a + s.size a ≤ s.size a} {w : s.Idx → Elt F e} {hx : (m.access (Rect.unit (s := s) off s.size inb)).Stores Finset.univ}
    {hm : (Finset.univ : Finset s.Idx) = Finset.univ ∨ ∀ a, (Rect.unit (s := s) off s.size inb).stride a = 1}
    {X : s.Idx → Elt F e} {α : Type} {Q : α → sProp 𝕄} {k : PUnit → Prog (TpuEff nD τ sig (Elt F) Λ₀ .tc) α} :
    (owns (c : Thread nD τ) m fullShare X : sProp 𝕄) ⊢ iprop((owns (c : Thread nD τ) m fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit (s := s) off s.size inb) w Finset.univ hx hm) k) Q) := by
  unfold owns
  iintro ⟨%f, %hf, H⟩ Hk
  have hX : m.view.read (Elt F) ((m.access (Rect.unit (s := s) off s.size inb)).write (Elt F) f w Finset.univ) = w := by
    funext x
    have hx' := congrFun (View.read_write_univ (v := m.access (Rect.unit (s := s) off s.size inb)) (Val := Elt F) f w) x
    refine Eq.trans ?_ hx'
    show m.view.read (Elt F) _ x = m.view.read (Elt F) _ ((Rect.unit (s := s) off s.size inb).emb x)
    rw [unit_emb h inb x]
  iapply (wp_store (defs := defs₀ (F := F)) 𝒱₀ (c : Thread nD τ) none Set.univ (m := m) (r := Rect.unit (s := s) off s.size inb) (S := m.view.set)
    ((View.setOn_subset_set _ _).trans (View.set_slice_subset _ _))) $$ H
  iintro H
  iapply Hk
  iexists _
  isplitr; · ipureintro; exact hX
  iexact H

/-! ## What a device holds between steps -/

/-- What of the communication the device holds before step `n`, apart from what it owes. -/
def Core (q : PosShare TreeShare) (c : Dev nD) (n : ℕ) : sProp 𝕄 :=
  if n = 0 then iprop(((Hail c 0 ∗ Hail c 1 ∗ Hail c 2) ∗ atPos (ER (F := F)) (bCell c) 0 ∅ 0 ∗ cred (tallyAt (bCell c) () 3)
      ∗ bigSep Finset.univ (fun j : Fin 32 => Tok P q c j)) ∗ RR (F := F) c (Rset n))
  else if n = 32 then iprop(ZZ (F := F) c ∅ ∗ RR (F := F) c (Rset n) ∗ semVal (bCell c) 0)
  else iprop(SS P q c (Fset n) ∗ RR (F := F) c (Rset n) ∗ semVal (bCell c) 0)

/-- What the device owes before step `n`. -/
def owed (c : Dev nD) (n : ℕ) := if n = 0 then Ow c Finset.univ + Ob c Finset.univ else Ow c (Fset n)

/-- The four blocks a step works on. -/
def Stg (c : Dev nD) (a3 : Memref sig .tc .vmem S1x256x2048 .f32) (a4 : Memref sig .tc .vmem S256x2048 .f32) (a5 : Memref sig .tc .vmem S1x2048 .f32)
    (a6 : Memref sig .tc .vmem S256x2048 .f32) (X3 : S1x256x2048.Idx → F .f32) (X4 : S256x2048.Idx → F .f32) (X5 : S1x2048.Idx → F .f32)
    (X6 : S256x2048.Idx → F .f32) : sProp 𝕄 :=
  iprop(owns (c : Thread nD τ) a3 fullShare X3 ∗ owns (c : Thread nD τ) a4 fullShare X4 ∗ owns (c : Thread nD τ) a5 fullShare X5 ∗ owns (c : Thread nD τ) a6 fullShare X6)

section
variable (q : PosShare TreeShare) (c : Dev nD)
  {h1 : (Memref.whole main_v40 : Memref sig .tc .smem S32 .i32).IsWhole} {h2 : (Memref.whole main_arg0 : Memref sig .tc .hbm S1x8192x2048 .f32).IsWhole}
  {a3 : Memref sig .tc .vmem S1x256x2048 .f32} {h3 : a3.IsWhole} {a4 : Memref sig .tc .vmem S256x2048 .f32} {h4 : a4.IsWhole}
  {a5 : Memref sig .tc .vmem S1x2048 .f32} {h5 : a5.IsWhole} {a6 : Memref sig .tc .vmem S256x2048 .f32} {h6 : a6.IsWhole}
  {h7 : (Memref.whole main_v41_1 : Memref sig .tc .hbm S8192x2048 .f32).IsWhole} {h8 : (Memref.whole cc0_scratch0 : Memref sig .tc .vmem S256x2048 .f32).IsWhole}

theorem core_start (t : Fin grid0.N) (ht : t.val = 0) {R : sProp 𝕄} :
    iprop(Inv P κ ∗ (Core P q c t.val ∗ Owe (F := F) c (owed c t.val)) ∗ Side c ∗ R)
      ⊢ iprop(Inv P κ ∗ Start P q c ∗ RR (F := F) c (Rset t.val) ∗ Side c ∗ R) := by
  rw [Core, owed, if_pos ht, if_pos ht]
  unfold Start
  iintro ⟨#HI, ⟨⟨⟨Hh, Ha, Hc, HT⟩, HR⟩, Ho⟩, HS, H⟩
  isplitr; · iexact HI
  isplitl [Hh Ha Hc HT Ho]
  · isplitl [Hh]; · iexact Hh
    isplitl [Ha]; · iexact Ha
    isplitl [Hc]; · iexact Hc
    isplitl [HT] <;> iassumption
  isplitl [HR]; · iexact HR
  isplitl [HS] <;> iassumption

theorem core_later (t : Fin grid0.N) (ht : t.val ≠ 0) {R : sProp 𝕄} :
    iprop(Inv P κ ∗ (Core P q c t.val ∗ Owe (F := F) c (owed c t.val)) ∗ Side c ∗ R)
      ⊢ iprop(Inv P κ ∗ Wtg P q c t.val ∗ Side c ∗ semVal (bCell c) 0 ∗ R) := by
  have h32 : t.val ≠ 32 := by have := t.isLt; have h := (by decide +kernel : grid0.N = 32); omega
  rw [Core, owed, if_neg ht, if_neg ht, if_neg h32]
  unfold Wtg
  iintro ⟨#HI, ⟨⟨HS, HR, Hb⟩, Ho⟩, HSd, H⟩
  isplitr; · iexact HI
  isplitl [HS HR Ho]
  · isplitl [HS]; · iexact HS
    isplitl [HR] <;> iassumption
  isplitl [HSd]; · iexact HSd
  isplitl [Hb] <;> iassumption

theorem wtg_core (n : ℕ) (h0 : n ≠ 0) (h32 : n ≠ 32) :
    iprop(Wtg P q c n ∗ semVal (bCell c) 0) ⊢ iprop(Core P q c n ∗ Owe (F := F) c (owed c n)) := by
  rw [Core, owed, if_neg h0, if_neg h0, if_neg h32]
  unfold Wtg
  iintro ⟨⟨HS, HR, Ho⟩, Hb⟩
  isplitr [Ho]
  · isplitl [HS]; · iexact HS
    isplitl [HR] <;> iassumption
  iexact Ho

theorem wtg_last {R : sProp 𝕄} (n : ℕ) (hn : n = 32) : iprop(Inv P κ ∗ Wtg P q c n ∗ R) ⊢ iprop(Inv P κ ∗ Zleft (F := F) c 0 ∗ (RR (F := F) c (Rset 32) ∗ R)) := by
  subst hn
  unfold Wtg Zleft
  rw [show Fset 32 = ∅ from Fset_late (t := 32) (by omega), Ow_empty, show zD 0 = Finset.univ by decide +kernel]
  iintro ⟨#HI, ⟨HS, HR, Ho⟩, H⟩
  isplitr; · iexact HI
  isplitl [HS Ho]
  · isplitl [HS]; · iapply (SS_done P q c); iexact HS
    iexact Ho
  isplitl [HR] <;> iassumption

theorem zleft_core (n : ℕ) (hn : n = 32) : iprop(Zleft (F := F) c 32 ∗ RR (F := F) c (Rset 32) ∗ semVal (bCell c) 0) ⊢ iprop(Core P q c n ∗ Owe (F := F) c (owed c n)) := by
  subst hn
  rw [Core, owed, if_neg (by decide : ¬ (32 : ℕ) = 0), if_neg (by decide : ¬ (32 : ℕ) = 0), if_pos (rfl : (32 : ℕ) = 32), show Fset 32 = ∅ from Fset_late (t := 32) (by omega), Ow_empty]
  unfold Zleft
  rw [zD_done]
  iintro ⟨⟨HZ, Ho⟩, HR, Hb⟩
  isplitr [Ho]
  · isplitl [HZ]; · iexact HZ
    isplitl [HR] <;> iassumption
  iexact Ho

/-- The communication of any step. -/
theorem part15_any (t : Fin grid0.N) {R : sProp 𝕄} {arg0 v2 v5 v8 v18 v19 v20 v23 v26 v30 v33 w : BitVec 32}
    {Q : (r : Σ' (_ : BitVec 32), BitVec 32) → sProp 𝕄}
    (h : ∀ r, iprop(Inv P κ ∗ Wtg P q c (t.val + 1) ∗ Side' P c t ∗ semVal (bCell c) 0 ∗ R) ⊢ Q r) :
    iprop(Inv P κ ∗ (Core P q c t.val ∗ Owe (F := F) c (owed c t.val)) ∗ Side c ∗ R) ⊢ wp frame (wpE (defs₀ (F := F)) 𝒱₀ (c : Thread nD τ) none) Set.univ
      (k0_part15 (grid0.coords t) (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11
        arg0 c v2 v5 v8 v18 v19 v20 v23 v26 v30 v33 w) Q := by
  by_cases ht : t.val = 0
  · exact (core_start P κ q c t ht).trans (part15_fst P κ q c t ht h)
  · exact (core_later P κ q c t ht).trans (part15_wp P κ q c t ht h)

/-- The scalars of a step, of which only the device's own number matters. -/
theorem part14_wp (i : grid0.Coords) {A : sProp 𝕄} {Q : (Σ' (arg0 : BitVec 32) (d0 : Dev nD) (v2 : BitVec 32) (v5 : BitVec 32) (v8 : BitVec 32) (v18 : BitVec 32) (v19 : BitVec 32) (v20 : BitVec 32) (v23 : BitVec 32) (v26 : BitVec 32) (v30 : BitVec 32) (v33 : BitVec 32), BitVec 32) → sProp 𝕄}
    (h : ∀ r, r.2.1 = c → A ⊢ Q r) :
    A ⊢ wp frame (wpE (defs₀ (F := F)) 𝒱₀ (c : Thread nD τ) none) Set.univ
      (k0_part14 i (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11) Q := by
  rw [k0_part14_eq_skeleton]; unfold k0_part14_skel
  simp only [Prog.lift, Prog.bind_op, Prog.bind_ret, Prog.pure_eq_ret, wp_deviceId]
  exact wp_done (h _ rfl)

/-- The arithmetic of a step. -/
theorem arith_wp (t : Fin grid0.N) {W B : sProp 𝕄} (X3 : S1x256x2048.Idx → F .f32) (X4 : S256x2048.Idx → F .f32) (X5 : S1x2048.Idx → F .f32) (X6 : S256x2048.Idx → F .f32)
    {α : Type} {Q : α → sProp 𝕄} {k : Prog (TpuEff nD τ sig (Elt F) Λ₀ .tc) α}
    {i3 i2 i4 i5 i6 i7 l3 l8 l4 l5 l6 s1 s2}
    (h : iprop(Inv P κ ∗ W ∗ Side c ∗ B ∗ Stg c a3 a4 a5 a6 X3 X4 X5 (k0_pay1 X3 (rcv P c t) X4 X5)) ⊢ wp frame (wpE (defs₀ (F := F)) 𝒱₀ (c : Thread nD τ) none) Set.univ k Q) :
    iprop(Inv P κ ∗ W ∗ Side' P c t ∗ B ∗ Stg c a3 a4 a5 a6 X3 X4 X5 X6) ⊢ wp frame (wpE (defs₀ (F := F)) 𝒱₀ (c : Thread nD τ) none) Set.univ
      (.op (.load a3 (Rect.unit (s := S1x256x2048) ![0, 0, 0] S1x256x2048.size i3).toLoadRect l3) fun v64 : Vec F S1x256x2048 .f32 =>
        .op (.load (Memref.whole cc0_scratch0) (Rect.unit (s := S256x2048) ![0, 0] S256x2048.size i2).toLoadRect l8) fun v66 : Vec F S256x2048 .f32 =>
        .op (.load a4 (Rect.unit (s := S256x2048) ![0, 0] S256x2048.size i4).toLoadRect l4) fun v68 : Vec F S256x2048 .f32 =>
        .op (.load a5 (Rect.unit (s := S1x2048) ![0, 0] S1x2048.size i5).toLoadRect l5) fun v81 : Vec F S1x2048 .f32 =>
        .op (.load a6 (Rect.unit (s := S256x2048) ![0, 0] S256x2048.size i6).toLoadRect l6) fun _ : Vec F S256x2048 .f32 =>
        .op (.store a6 (Rect.unit (s := S256x2048) ![0, 0] S256x2048.size i7) (k0_pay1 v64 v66 v68 v81) Finset.univ s1 s2) fun _ => k) Q := by
  have z2 : (![0, 0] : Fin 2 → ℕ) = fun _ => 0 := by decide
  have z3 : (![0, 0, 0] : Fin 3 → ℕ) = fun _ => 0 := by decide
  refine BI.Entails.trans ?_ (show iprop(Inv P κ ∗ W ∗ (tblPts c ∗ owns (c : Thread nD τ) (Memref.whole cc0_scratch0) fullShare (rcv P c t) ∗ semVal ((c : Thread nD τ), .dma cSem) 0) ∗ B
    ∗ Stg c a3 a4 a5 a6 X3 X4 X5 X6) ⊢ _ from ?_)
  · unfold Side' vecPts
    rw [owns_whole]
    exact BI.Entails.refl _
  unfold Stg at h ⊢
  iintro ⟨#HI, HW, ⟨Htb, Hv, Hcs⟩, Hb, H3, H4, H5, H6⟩
  iapply (wp_load_full z3) $$ H3; iintro H3
  iapply (wp_load_full z2) $$ Hv; iintro Hv
  iapply (wp_load_full z2) $$ H4; iintro H4
  iapply (wp_load_full z2) $$ H5; iintro H5
  iapply (wp_load_full z2) $$ H6; iintro H6
  iapply (wp_store_full z2) $$ H6; iintro H6
  iapply h
  isplitr; · iexact HI
  isplitl [HW]; · iexact HW
  isplitl [Htb Hv Hcs]
  · unfold Side
    isplitl [Htb]; · iexact Htb
    isplitl [Hv]
    · iexists _
      unfold vecPts
      iapply (Entails.of_eq (owns_whole (c : Thread nD τ) cc0_scratch0 fullShare (rcv P c t)))
      iexact Hv
    iexact Hcs
  isplitl [Hb]; · iexact Hb
  isplitl [H3]; · iexact H3
  isplitl [H4]; · iexact H4
  isplitl [H5] <;> iassumption

/-- The whole body at a step: it leaves the normalized block in the output's staging buffer. -/
theorem body_wp (t : Fin grid0.N) (X3 : S1x256x2048.Idx → F .f32) (X4 : S256x2048.Idx → F .f32) (X5 : S1x2048.Idx → F .f32) (X6 : S256x2048.Idx → F .f32) :
    iprop(Inv P κ ∗ (Core P q c t.val ∗ Owe (F := F) c (owed c t.val)) ∗ Side c ∗ Stg c a3 a4 a5 a6 X3 X4 X5 X6)
      ⊢ wp frame (wpE (defs₀ (F := F)) 𝒱₀ (c : Thread nD τ) none) Set.univ
      (cc0_body (grid0.coords t) (Memref.whole main_v40) h1 (Memref.whole main_arg0) h2 a3 h3 a4 h4 a5 h5 a6 h6 (Memref.whole main_v41_1) h7 (Memref.whole cc0_scratch0) h8
        cc0_scratch1 cc0_scratch2 cc0_scratch3 cc0_scratch4 cc0_scratch5 cc0_scratch6 cc0_scratch7 cc0_scratch8 cc0_scratch9 cc0_scratch10 cc0_scratch11)
      (fun _ => iprop((Core P q c (t.val + 1) ∗ Owe (F := F) c (owed c (t.val + 1))) ∗ Side c ∗ Stg c a3 a4 a5 a6 X3 X4 X5 (k0_pay1 X3 (rcv P c t) X4 X5))) := by
  rw [cc0_body_eq_skeleton]; unfold cc0_body_skel
  simp only [Prog.lift, Prog.bind_op, Prog.bind_ret, Prog.pure_eq_ret]
  refine bind_step (part14_wp c _ fun ⟨arg0, d0, v2, v5, v8, v18, v19, v20, v23, v26, v30, v33, w⟩ hd => ?_)
  obtain rfl : d0 = c := hd
  simp only []
  refine bind_step (part15_any P κ q _ t fun _ => ?_)
  refine arith_wp P κ _ t _ _ _ _ ?_
  by_cases h31 : t.val = 31
  · rw [dif_pos ((cond11 t).2 h31)]
    refine (wtg_last P κ q _ _ (by omega)).trans ?_
    refine bind_step (part7_wp P κ _ _ ?_)
    refine bind_step (part8_wp P κ _ _ ?_)
    refine bind_step (part9_wp P κ _ _ ?_)
    refine bind_step (part10_wp P κ _ _ ?_)
    refine bind_step (part11_wp P κ _ _ ?_)
    refine bind_step (part12_wp P κ _ _ ?_)
    refine bind_step (part13_wp P κ _ _ ?_)
    refine stepZ P κ _ 29 _ _ (by exact sem_eq _ _ _ _ (by decide +kernel)) (row_credit _ _) ?_
    refine stepZ P κ _ 30 _ _ (by exact sem_eq _ _ _ _ (by decide +kernel)) (row_credit _ _) ?_
    refine stepZ P κ _ 31 _ _ (by exact sem_eq _ _ _ _ (by decide +kernel)) (row_credit _ _) ?_
    refine wp_done ?_
    iintro ⟨-, HZ, HR, HS, Hb, Hg⟩
    isplitl [HZ HR Hb]
    · iapply (zleft_core P q _ _ (by omega))
      isplitl [HZ]; · iexact HZ
      isplitl [HR] <;> iassumption
    isplitl [HS] <;> iassumption
  · rw [dif_neg (by rw [cond11]; exact h31)]
    refine wp_done ?_
    iintro ⟨-, HW, HS, Hb, Hg⟩
    isplitl [HW Hb]
    · iapply (wtg_core P q _ _ (by omega) (by omega))
      isplitl [HW] <;> iassumption
    isplitl [HS] <;> iassumption
end

end Cert.LnProof
-- ==== Proof.Table.lean ====
/-
The table of row blocks: what the host operations leave in it, and that every block it names is inside the arrays.
-/
module

public import proofs.«01_k».proof.Proof.Body
public import proofs.«01_k».proof.Proof.Gen.KernelIdeal.Launch
public import proofs.«01_k».proof.Proof.Gen.KernelIdeal.Regions
public import Idealize.ShloMosaic.Lib.StableHlo.ReadAt

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (V : Valuation τ sig (Elt F)) (c : Dev nD)

theorem word_x : ∀ c : Dev nD, IntOp.remui .host (IntOp.divui .host (Dev.word c) 8#32) 2#32 = BitVec.ofNat 32 (c.val / 8) := by decide +kernel
theorem word_z : ∀ c : Dev nD, IntOp.remui .host (IntOp.divui .host (Dev.word c) 1#32) 4#32 = BitVec.ofNat 32 (c.val % 4) := by decide +kernel
theorem word_r : ∀ c : Dev nD,
    Scalar.select (IntOp.andi
        (IntOp.cmpi CmpIPredicate.ne
          (IntOp.cmpi CmpIPredicate.slt (IntOp.remsi .host (BitVec.ofNat 32 (c.val % 4)) (Scalar.select (IntOp.cmpi CmpIPredicate.eq 2#32 0#32) 1#32 2#32)) 0#32)
          (IntOp.cmpi CmpIPredicate.slt (Scalar.select (IntOp.cmpi CmpIPredicate.eq 2#32 0#32) 1#32 2#32) 0#32))
        (IntOp.cmpi CmpIPredicate.ne (IntOp.remsi .host (BitVec.ofNat 32 (c.val % 4)) (Scalar.select (IntOp.cmpi CmpIPredicate.eq 2#32 0#32) 1#32 2#32)) 0#32))
      (IntOp.addi (IntOp.remsi .host (BitVec.ofNat 32 (c.val % 4)) (Scalar.select (IntOp.cmpi CmpIPredicate.eq 2#32 0#32) 1#32 2#32))
        (Scalar.select (IntOp.cmpi CmpIPredicate.eq 2#32 0#32) 1#32 2#32))
      (IntOp.remsi .host (BitVec.ofNat 32 (c.val % 4)) (Scalar.select (IntOp.cmpi CmpIPredicate.eq 2#32 0#32) 1#32 2#32))
      = BitVec.ofNat 32 (c.val % 2) := by decide +kernel
theorem word_div : ∀ j : Fin 32,
    Scalar.select
      (IntOp.andi
        (IntOp.cmpi CmpIPredicate.ne
          (if BitVec.ofNat 32 j.val = 0 then (0 : BitVec 32) else if (BitVec.ofNat 32 j.val).msb = true then -1 else 1)
          (if 8#32 = 0 then (0 : BitVec 32) else if (8#32).msb = true then -1 else 1))
        (IntOp.cmpi CmpIPredicate.ne (IntOp.remsi ArithUnit.host (BitVec.ofNat 32 j.val) 8#32) 0#32))
      (IntOp.subi (IntOp.divsi ArithUnit.host (BitVec.ofNat 32 j.val) 8#32) 1#32)
      (IntOp.divsi ArithUnit.host (BitVec.ofNat 32 j.val) 8#32) = BitVec.ofNat 32 (j.val / 8) := by decide +kernel
theorem word_pick : ∀ (c : Dev nD) (j : Fin 32),
    IntOp.muli (BitVec.ofNat 32 (quarter c
          (min (Scalar.select (IntOp.cmpi CmpIPredicate.slt (BitVec.ofNat 32 (j.val / 8)) 0#32) (IntOp.addi (BitVec.ofNat 32 (j.val / 8)) 4#32)
            (BitVec.ofNat 32 (j.val / 8))).toInt.toNat 3))) 8#32 = BitVec.ofNat 32 (quarter c (j.val / 8) * 8) := by decide +kernel
theorem word_rem : ∀ j : Fin 32,
    Scalar.select (IntOp.andi
        (IntOp.cmpi CmpIPredicate.ne
          (IntOp.cmpi CmpIPredicate.slt (IntOp.remsi .host (BitVec.ofNat 32 j.val) (Scalar.select (IntOp.cmpi CmpIPredicate.eq 8#32 0#32) 1#32 8#32)) 0#32)
          (IntOp.cmpi CmpIPredicate.slt (Scalar.select (IntOp.cmpi CmpIPredicate.eq 8#32 0#32) 1#32 8#32) 0#32))
        (IntOp.cmpi CmpIPredicate.ne (IntOp.remsi .host (BitVec.ofNat 32 j.val) (Scalar.select (IntOp.cmpi CmpIPredicate.eq 8#32 0#32) 1#32 8#32)) 0#32))
      (IntOp.addi (IntOp.remsi .host (BitVec.ofNat 32 j.val) (Scalar.select (IntOp.cmpi CmpIPredicate.eq 8#32 0#32) 1#32 8#32))
        (Scalar.select (IntOp.cmpi CmpIPredicate.eq 8#32 0#32) 1#32 8#32))
      (IntOp.remsi .host (BitVec.ofNat 32 j.val) (Scalar.select (IntOp.cmpi CmpIPredicate.eq 8#32 0#32) 1#32 8#32))
      = BitVec.ofNat 32 (j.val % 8) := by decide +kernel
theorem word_sum : ∀ (c : Dev nD) (j : Fin 32),
    IntOp.addi (BitVec.ofNat 32 (quarter c (j.val / 8) * 8)) (BitVec.ofNat 32 (j.val % 8)) = BitVec.ofNat 32 (blk c j).val := by decide +kernel

theorem host0_x : StableHlo.after (hostOps0 (F := F) c) V main_v5 = fun _ => BitVec.ofNat 32 (c.val / 8) := by
  refine funext fun (k : S_.Idx) => ?_
  after_reads_at
  exact word_x c
theorem host0_z : StableHlo.after (hostOps0 (F := F) c) V main_v9 = fun _ => BitVec.ofNat 32 (c.val % 4) := by
  refine funext fun (k : S_.Idx) => ?_
  after_reads_at
  exact word_z c
theorem host0_two : StableHlo.after (hostOps0 (F := F) c) V main_c_3 = fun _ => 2#32 := by
  after_reads_simp
  rfl
theorem host1_r (hz : V main_v9 = fun _ => BitVec.ofNat 32 (c.val % 4)) (h2 : V main_c_3 = fun _ => 2#32) :
    StableHlo.after (hostOps0_1 (F := F)) V main_v10 = fun _ => BitVec.ofNat 32 (c.val % 2) := by
  refine funext fun (k : S_.Idx) => ?_
  after_reads_at
  rw [hz, h2]
  exact word_r c
theorem host2_q (hx : V main_v5 = fun _ => BitVec.ofNat 32 (c.val / 8)) (hr : V main_v10 = fun _ => BitVec.ofNat 32 (c.val % 2)) :
    StableHlo.after (hostOps0_2 (F := F)) V main_v27 = fun k => BitVec.ofNat 32 (quarter c (k 0).val) := by
  refine funext fun (k : S4.Idx) => ?_
  after_reads_simp
  simp only [Matrix.cons_val]
  after_reads_at
  rw [hx, hr]
  beta_reduce
  generalize k 0 = j
  clear hx hr
  revert c j
  decide +kernel
theorem host2_iota : StableHlo.after (hostOps0_2 (F := F)) V main_v28 = fun k => BitVec.ofNat 32 (k 0).val := by
  after_reads_simp
  rfl
theorem host2_eight : StableHlo.after (hostOps0_2 (F := F)) V main_c_12 = fun _ => 8#32 := by
  after_reads_simp
  rfl
theorem host3_div (hi : V main_v28 = fun k => BitVec.ofNat 32 (k 0).val) (h8 : V main_c_12 = fun _ => 8#32) :
    StableHlo.after (hostOps0_3 (F := F)) V main_v29 = fun k => BitVec.ofNat 32 ((k 0).val / 8) := by
  refine funext fun (k : S32.Idx) => ?_
  after_reads_at
  rw [hi, h8]
  exact word_div (k 0)
/-- The gather of the quarter of each step: the word at a position clamped into the table of quarters. -/
theorem gather_pick (x : S4.Idx → BitVec 32) (idx : IVec S32x1 32) (k : S32.Idx) :
    Host.gather gather_S4_S32x1_S32_n_0_n_n_0_1_1 x idx k = x (ValueIdx.ix1 ⟨min (idx (ValueIdx.ix2 (k 0) (0 : Fin 1))).toInt.toNat 3, by omega⟩) := by
  unfold Host.gather
  congr 1
  funext a
  obtain rfl : a = 0 := Subsingleton.elim (α := Fin 1) _ _
  refine Fin.ext ?_
  show gather_S4_S32x1_S32_n_0_n_n_0_1_1.start k idx 0 + gather_S4_S32x1_S32_n_0_n_n_0_1_1.batchCoord k 0 + gather_S4_S32x1_S32_n_0_n_n_0_1_1.offCoord k 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S32x1_S32_n_0_n_n_0_1_1.startIndexMap from List.mem_singleton.mpr rfl)]
  have hsi : gather_S4_S32x1_S32_n_0_n_n_0_1_1.siIdx k ⟨List.idxOf (0 : Fin 1) gather_S4_S32x1_S32_n_0_n_n_0_1_1.startIndexMap,
      List.idxOf_lt_length_iff.2 (List.mem_singleton.mpr rfl)⟩ = ValueIdx.ix2 (k 0) (0 : Fin 1) := by
    funext b
    refine Fin.ext ?_
    match b with
    | ⟨0, _⟩ => rfl
    | ⟨1, _⟩ => rfl
  rw [hsi]
  rfl
theorem host4_mul (hq : V main_v27 = fun k => BitVec.ofNat 32 (quarter c (k 0).val)) (hd : V main_v29 = fun k => BitVec.ofNat 32 ((k 0).val / 8)) :
    StableHlo.after (hostOps0_4 (F := F)) V main_v38 = fun k => BitVec.ofNat 32 (quarter c ((k 0).val / 8) * 8) := by
  refine funext fun (k : S32.Idx) => ?_
  after_reads_at
  rw [hq, hd, gather_pick]
  pointwise
  exact word_pick c (k 0)

theorem host4_eight : StableHlo.after (hostOps0_4 (F := F)) V main_c_16 = fun _ => 8#32 := by
  after_reads_simp
  rfl
theorem host5_rem (hi : V main_v28 = fun k => BitVec.ofNat 32 (k 0).val) (h8 : V main_c_16 = fun _ => 8#32) :
    StableHlo.after (hostOps0_5 (F := F)) V main_v39 = fun k => BitVec.ofNat 32 ((k 0).val % 8) := by
  refine funext fun (k : S32.Idx) => ?_
  after_reads_at
  rw [hi, h8]
  exact word_rem (k 0)

theorem host6_add (hm : V main_v38 = fun k => BitVec.ofNat 32 (quarter c ((k 0).val / 8) * 8))
    (hs : V main_v39 = fun k => BitVec.ofNat 32 ((k 0).val % 8)) : StableHlo.after (hostOps0_6 (F := F)) V main_v40 = tbl (F := F) c := by
  refine funext fun (k : S32.Idx) => ?_
  after_reads_at
  rw [hm, hs]
  unfold tbl
  exact word_sum c (k 0)

/-- After the host operations the table holds the row block of every step. -/
theorem table_eq (m : (ℓ : Loc nD τ sig) → Buf (Elt F) ℓ) (c : Dev nD) : V7 m c main_v40 = tbl (F := F) c := by
  have hx : V2 m c main_v5 = fun _ => BitVec.ofNat 32 (c.val / 8) := (V2_of m c main_v5 (by decide)).trans (host0_x _ c)
  have hr := host1_r (V1 m c) c (host0_z _ c) (host0_two _ c)
  have hi : V3 m c main_v28 = _ := host2_iota (V2 m c)
  have hq : V4 m c main_v27 = _ := (V4_of m c main_v27 (by decide)).trans (host2_q (V2 m c) c hx hr)
  have hd := host3_div (V3 m c) hi (host2_eight _)
  have hm : V6 m c main_v38 = _ := (V6_of m c main_v38 (by decide)).trans (host4_mul (V4 m c) c hq hd)
  have hi5 : V5 m c main_v28 = _ := (V5_of m c main_v28 (by decide)).trans ((V4_of m c main_v28 (by decide)).trans hi)
  have hs : V6 m c main_v39 = _ := host5_rem (V5 m c) hi5 (host4_eight _)
  exact host6_add (V6 m c) c hm hs

/-- The tables at the launch of the kernel. -/
def tbls (c : Dev nD) : pre0.Contents (Elt F) := fun | 0 => tbl (F := F) c | ⟨_ + 1, h⟩ => absurd h (Nat.not_lt.2 (Nat.le_add_left _ _))

/-- The word an index map reads from the table. -/
theorem tbls_at (c : Dev nD) (i : grid0.Coords) :
    (tbls (F := F) c).at 0 (Rect.unit (s := S32) ![(Scalar.indexCast (BitVec.ofNat 32 (i 0).val)).toNat] S1.size (k0_off1_inb i)) numel1_S1
      = BitVec.ofNat 32 (blk c ⟨(i 0).val, (i 0).isLt⟩).val := by
  show BitVec.ofNat 32 (blk c _).val = _
  congr 3
  apply Fin.ext
  show (BitVec.ofNat 32 (i 0).val).toNat + 1 * 0 = (i 0).val
  have := (i 0).isLt
  rw [BitVec.toNat_ofNat]
  have : (i 0).val < 32 := (i 0).isLt
  omega

end Cert.LnProof
-- ==== Proof.Dats.lean ====
/-
The pipeline of one device: the row blocks its windows visit, its proof data, and the body obligation at every step.
-/
module

public import proofs.«01_k».proof.Proof.Table

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

/-! ## The windows at the table -/

/-- The row block visited at a grid point. -/
def gblk (c : Dev nD) (i : grid0.Coords) : Fin 32 := blk c ⟨(i 0).val, (i 0).isLt⟩

theorem word_toNat (b : Fin 32) : (BitVec.ofNat 32 b.val).toNat = b.val := by
  rw [BitVec.toNat_ofNat]; have := b.isLt; omega

theorem ix_partial (c : Dev nD) (i : grid0.Coords) :
    cc0_transform_1 k0_off1_inb numel1_S1 (tbls (F := F) c) i = ![0, (gblk c i).val, 0] := by
  unfold cc0_transform_1
  dsimp only
  rw [tbls_at, word_toNat]
  rfl
theorem ix_resid (c : Dev nD) (i : grid0.Coords) :
    cc0_transform_2 k0_off1_inb numel1_S1 (tbls (F := F) c) i = ![(gblk c i).val, 0] := by
  unfold cc0_transform_2
  dsimp only
  rw [tbls_at, word_toNat]
  rfl
theorem ix_out (c : Dev nD) (i : grid0.Coords) :
    cc0_transform_4 k0_off1_inb numel1_S1 (tbls (F := F) c) i = ![(gblk c i).val, 0] := by
  unfold cc0_transform_4
  dsimp only
  rw [tbls_at, word_toNat]
  rfl

theorem inb3 (b : Fin 32) : ∀ a : Fin 3, ((![0, b.val, 0] : Fin 3 → ℕ) a + 1) * S1x256x2048.size a ≤ S1x8192x2048.size a := by
  revert b; decide +kernel
theorem inb2 (b : Fin 32) : ∀ a : Fin 2, ((![b.val, 0] : Fin 2 → ℕ) a + 1) * S256x2048.size a ≤ S8192x2048.size a := by
  revert b; decide +kernel

/-- Every block the table names is inside the arrays. -/
theorem ok_tbls (c : Dev nD) : ok0 (F := F) (tbls c) := by
  refine ⟨fun i => ⟨?_, Or.inl rfl⟩, fun i => ⟨?_, Or.inl rfl⟩, fun i => ⟨?_, Or.inl rfl⟩⟩
  · rw [ix_partial]; exact inb3 _
  · rw [ix_resid]; exact inb2 _
  · rw [ix_out]; exact inb2 _

/-- The tables every device runs the kernel at. -/
abbrev adm : Dev nD → (p : Fin 1) → (pcfgs (F := F) p).Adm := fun c _ => ⟨tbls c, ok_tbls c⟩

/-- The staging cells of the devices are all different. -/
theorem phinj : Function.Injective (Pipeline.PerCore.cellOf (nD := nD) (τ := τ) (Pipeline.pinD (pcfgs (F := F)) adm)) :=
  Pipeline.PerCore.cellOf_injective _ (fun c p => by
    exact Pipeline.specSemsDistinct_of_nodup _ (match p with | 0 => semsDistinct 0))
    (fun c p p' h => by exact absurd (Subsingleton.elim p p') h)

variable (m : (ℓ : Loc nD τ sig) → Buf (Elt F) ℓ)

/-- Every device's partial sums. -/
abbrev PP : Dev nD → PVal F := fun c => m ((c : Thread nD τ).loc main_arg0)

/-- The configuration device `c` runs. -/
abbrev cfgD (c : Dev nD) : Pipeline.Cfg sig Λ₀ := Pipeline.pinD (pcfgs (F := F)) adm c 0

/-- What the windowed arrays hold at entry. -/
def entry (c : Dev nD) : (w : Fin (cfgD (F := F) c).W) → Buf (Elt F) (((cfgD (F := F) c).win w).arr.view.loc (c : Thread nD τ)) := fun
  | 0 => m ((c : Thread nD τ).loc main_arg0)
  | 1 => m ((c : Thread nD τ).loc main_arg1)
  | 2 => V7 m c main_v1
  | 3 => V7 m c main_v41_0
  | ⟨_ + 4, h⟩ => absurd h (Nat.not_lt.2 (Nat.le_add_left _ _))

/-- The block of a window's array at a grid point. -/
def fblk (c : Dev nD) (w : Fin (cfgD (F := F) c).W) (t : Fin (cfgD (F := F) c).N) :
    (((cfgD (F := F) c).win w).xblock ((cfgD (F := F) c).grid.coords t)).Idx → Elt F ((cfgD (F := F) c).win w).elt :=
  (((cfgD (F := F) c).win w).blk t).view.read (Elt F) (entry m c w)

/-- The rows written back at step `t`. -/
def outRows (c : Dev nD) (t : Fin grid0.N) : S256x2048.Idx → Elt F .f32 :=
  k0_pay1 (fblk m c 0 t) (rcv (PP m) c t) (fblk m c 1 t) (fblk m c 2 t)

/-- Half of the partial sums goes to the pipeline, half to the transfers. -/
abbrev qw : PosShare TreeShare := (fullShare : PosShare TreeShare).left
abbrev qs : PosShare TreeShare := (fullShare : PosShare TreeShare).right

def dats (p : Fin 1) (c : Dev nD) : Pipeline.Dat τ (Elt F) Unit ℕ UU ℕ (Pipeline.pinD (pcfgs (F := F)) adm c p) c :=
  match p with
  | 0 =>
    { A := entry m c
      after := fun
        | 0 => fblk m c 0
        | 1 => fblk m c 1
        | 2 => fblk m c 2
        | 3 => outRows m c
        | ⟨_ + 4, h⟩ => absurd h (Nat.not_lt.2 (Nat.le_add_left _ _))
      Φ := fun n => iprop(∃ κ, Inv (PP m) κ ∗ Core (PP m) qs c n.val ∗ Side c)
      q := fun
        | 0 => qw
        | _ => fullShare
      owed := fun n => owed c n.val }

theorem before_in (c : Dev nD) (t : Fin grid0.N) (d) : (dats m 0 c).before (0 : Fin 4) t d = fblk m c 0 t :=
  (Pipeline.Dat.before_in_eq_fetched (dats m 0 c) (0 : Fin 4) rfl (fun _ => rfl) (fun _ _ _ => rfl) (fun _ => rfl) t d)
theorem before_resid (c : Dev nD) (t : Fin grid0.N) (d) : (dats m 0 c).before (1 : Fin 4) t d = fblk m c 1 t :=
  (Pipeline.Dat.before_in_eq_fetched (dats m 0 c) (1 : Fin 4) rfl (fun _ => rfl) (fun _ _ _ => rfl) (fun _ => rfl) t d)
set_option maxHeartbeats 1000000 in
theorem before_gamma (c : Dev nD) (t : Fin grid0.N) (d) : (dats m 0 c).before (2 : Fin 4) t d = fblk m c 2 t :=
  (Pipeline.Dat.before_in_eq_fetched (dats m 0 c) (2 : Fin 4) rfl (fun _ => rfl) (fun _ _ _ => rfl) (fun _ => rfl) t d)

/-- The state before step `t`, the staging buffers apart. -/
def Mid (c : Dev nD) (n : ℕ) : sProp 𝕄 := iprop(∃ κ, Inv (PP m) κ ∗ Core (PP m) qs c n ∗ Side c)

theorem owes_of (c : Dev nD) (n : Fin (grid0.N + 1)) : (dats (F := F) m 0 c).owesAt () n ⊢ Owe c (owed c n.val) := by
  unfold Pipeline.Dat.owesAt Pipeline.owesWithin Owe
  iintro ⟨%W, -, H⟩
  iexists W
  iexact H
theorem of_owes (c : Dev nD) (n : Fin (grid0.N + 1)) : Owe (F := F) c (owed c n.val) ⊢ (dats (F := F) m 0 c).owesAt () n := by
  unfold Pipeline.Dat.owesAt Pipeline.owesWithin Owe
  iintro ⟨%W, H⟩
  iexists W
  isplitr; · ipureintro; exact fun _ _ => Or.inl trivial
  iexact H

/-- The body over the windows' staging buffers at step `t`. -/
theorem body_run (c : Dev nD) (t : Fin grid0.N) (a3 : Memref sig .tc .vmem S1x256x2048 .f32) (h3 : a3.IsWhole)
    (a4 : Memref sig .tc .vmem S256x2048 .f32) (h4 : a4.IsWhole) (a5 : Memref sig .tc .vmem S1x2048 .f32) (h5 : a5.IsWhole)
    (a6 : Memref sig .tc .vmem S256x2048 .f32) (h6 : a6.IsWhole) (B : (S256x2048.Idx → Elt F .f32) → S256x2048.Idx → Elt F .f32) :
    iprop(Mid m c t.castSucc.val ∗ (dats (F := F) m 0 c).owesAt () t.castSucc
        ∗ (∃ _d : S1x256x2048.Idx → Elt F .f32, owns (c : Thread nD τ) a3 fullShare (fblk m c 0 t)) ∗ (∃ _d : S256x2048.Idx → Elt F .f32, owns (c : Thread nD τ) a4 fullShare (fblk m c 1 t))
        ∗ (∃ _d : S1x2048.Idx → Elt F .f32, owns (c : Thread nD τ) a5 fullShare (fblk m c 2 t)) ∗ (∃ d, owns (c : Thread nD τ) a6 fullShare (B d)))
      ⊢ wp frame (wpE (defs₀ (F := F)) 𝒱₀ (c : Thread nD τ) none) Set.univ
          (cc0_body (grid0.coords t) (Memref.whole main_v40) (Memref.isWhole_whole _) (Memref.whole main_arg0) (Memref.isWhole_whole _)
            a3 h3 a4 h4 a5 h5 a6 h6 (Memref.whole main_v41_1) (Memref.isWhole_whole _) (Memref.whole cc0_scratch0) (Memref.isWhole_whole _)
            cc0_scratch1 cc0_scratch2 cc0_scratch3 cc0_scratch4 cc0_scratch5 cc0_scratch6 cc0_scratch7 cc0_scratch8 cc0_scratch9 cc0_scratch10 cc0_scratch11)
          fun _ => iprop(Mid m c t.succ.val ∗ (dats (F := F) m 0 c).owesAt () t.succ ∗ owns (c : Thread nD τ) a3 fullShare (fblk m c 0 t)
            ∗ owns (c : Thread nD τ) a4 fullShare (fblk m c 1 t) ∗ owns (c : Thread nD τ) a5 fullShare (fblk m c 2 t) ∗ owns (c : Thread nD τ) a6 fullShare (outRows m c t)) := by
  iintro ⟨HM, Ho, ⟨%d0, H3⟩, ⟨%d1, H4⟩, ⟨%d2, H5⟩, ⟨%d, H6⟩⟩
  ihave Ho := (owes_of m c t.castSucc) $$ Ho
  unfold Mid
  icases HM with ⟨%κ, #HI, HC, HS⟩
  iapply wp_wand_r
  isplitl
  · iapply (body_wp (PP m) κ qs c t (fblk m c 0 t) (fblk m c 1 t) (fblk m c 2 t) (B d))
    isplitr; · iexact HI
    isplitl [HC Ho]
    · isplitl [HC]; · iexact HC
      iexact Ho
    isplitl [HS]; · iexact HS
    unfold Stg
    isplitl [H3]; · iexact H3
    isplitl [H4]; · iexact H4
    isplitl [H5]; · iexact H5
    iexact H6
  · iintro %_ ⟨⟨HC, Ho⟩, HS, HG⟩
    unfold Stg
    icases HG with ⟨H3, H4, H5, H6⟩
    ihave Ho := (show Owe (F := F) c (owed c (t.val + 1)) ⊢ (dats (F := F) m 0 c).owesAt () t.succ from of_owes m c t.succ) $$ Ho
    isplitl [HC HS]
    · iexists κ
      isplitr; · iexact HI
      isplitl [HC]; · iexact HC
      iexact HS
    isplitl [Ho]; · iexact Ho
    isplitl [H3]; · iexact H3
    isplitl [H4]; · iexact H4
    isplitl [H5]; · iexact H5
    unfold outRows
    iexact H6

theorem body_obligation (c : Dev nD) : Pipeline.BodyObligation (dats (F := F) m 0 c) (defs₀ (F := F)) 𝒱₀ () Set.univ := fun t => by
  rw [bigSep_W0, bigSep_W0]
  simp only [before_in m c, before_resid m c, before_gamma m c]
  exact body_run m c t _ _ _ _ _ _ _ _ ((dats m 0 c).before (3 : Fin 4) t)

end Cert.LnProof
-- ==== Proof.Ghost.lean ====
/-
The start of the exchange: every cell set up, the rights to act on it dealt to the device that acts, and what each device may expect.
-/
module

public import proofs.«01_k».proof.Proof.Dats

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

/-! ## The cells, listed -/

/-- A transfer's sending or receiving cell. -/
def xc (x : (Dev nD × Fin 32) × Bool) : GSem nD τ sig := if x.2 then sCell x.1.1 x.1.2 else rCell x.1.1 x.1.2
theorem cell_dev {c c' : Dev nD} {s s' : SemLoc sig} (h : (((c : Thread nD τ), s) : GSem nD τ sig) = ((c' : Thread nD τ), s')) : c = c' ∧ s = s' :=
  ⟨congrArg (fun g : GSem nD τ sig => g.1.1) h, congrArg Prod.snd h⟩
theorem xc_inj : Function.Injective xc := by
  rintro ⟨⟨c, j⟩, b⟩ ⟨⟨c', j'⟩, b'⟩ h
  cases b <;> cases b' <;> simp only [xc, if_true, if_false, Bool.false_eq_true] at h
  · obtain ⟨h1, h2⟩ := cell_dev h; rw [h1, show j = j' from rSem_inj (by injection h2)]
  · obtain ⟨h1, h2⟩ := cell_dev h; exact absurd (by injection h2) (sSem_ne_rSem j' j).symm
  · obtain ⟨h1, h2⟩ := cell_dev h; exact absurd (by injection h2) (sSem_ne_rSem j j')
  · obtain ⟨h1, h2⟩ := cell_dev h; rw [h1, show j = j' from sSem_inj (by injection h2)]
theorem bCell_inj : Function.Injective (bCell : Dev nD → GSem nD τ sig) := fun _ _ h => (cell_dev h).1
theorem bCell_ne_xc (c : Dev nD) (x) : bCell c ≠ xc x := by
  rcases x with ⟨⟨c', j⟩, b⟩
  intro h
  cases b <;> simp only [xc, if_true, if_false, Bool.false_eq_true] at h <;> cases (cell_dev h).2
theorem cells_disjoint : Disjoint barCells xCells := Finset.disjoint_left.mpr fun g h h' => by
  obtain ⟨c, -, rfl⟩ := Finset.mem_image.mp h
  obtain ⟨x, -, hx⟩ := Finset.mem_image.mp h'
  exact bCell_ne_xc c x hx.symm

/-- The duties, as the launch lists them. -/
def barToks : Finset (GSem nD τ sig × ℕ × Fin 3) := Finset.univ.image fun x : Dev nD × Fin 3 => (bCell x.1, 0, x.2)
def xToks : Finset (GSem nD τ sig × ℕ × Fin 3) := Finset.univ.image fun x => (xc x, 0, 0)

section
variable {M : Type} [URA M]

/-- Over the transfers' cells: the sending ones, then the receiving ones. -/
theorem bigSep_xc (Φ : GSem nD τ sig → sProp M) : bigSep Finset.univ (fun x => Φ (xc x))
    = iprop((bigSep Finset.univ fun c : Dev nD => bigSep Finset.univ fun j : Fin 32 => Φ (sCell c j))
        ∗ bigSep Finset.univ fun c : Dev nD => bigSep Finset.univ fun j : Fin 32 => Φ (rCell c j)) := by
  rw [bigSep_univ_prod, bigSep_congr (s := Finset.univ) (fun (x : Dev nD × Fin 32) _ =>
      show (bigSep Finset.univ fun b : Bool => Φ (xc (x, b))) = iprop(Φ (sCell x.1 x.2) ∗ Φ (rCell x.1 x.2)) from
        bigSep_univ_eq_bigSepL [true, false] (by decide) (by decide) _), bigSep_sep', bigSep_univ_prod, bigSep_univ_prod]
theorem bigSep_xCells (Φ : GSem nD τ sig → sProp M) : bigSep xCells Φ
    = iprop((bigSep Finset.univ fun c : Dev nD => bigSep Finset.univ fun j : Fin 32 => Φ (sCell c j))
        ∗ bigSep Finset.univ fun c : Dev nD => bigSep Finset.univ fun j : Fin 32 => Φ (rCell c j)) :=
  (bigSep_image_of_injOn (f := xc) xc_inj.injOn Φ).trans (bigSep_xc Φ)
theorem bigSep_barCells (Φ : GSem nD τ sig → sProp M) : bigSep barCells Φ = bigSep Finset.univ fun c : Dev nD => Φ (bCell c) :=
  bigSep_image_of_injOn (f := bCell) bCell_inj.injOn Φ
theorem bigSep_toks (Φ : GSem nD τ sig × ℕ × Fin 3 → sProp M) : bigSep (barToks ∪ xToks) Φ
    = iprop((bigSep Finset.univ fun c : Dev nD => bigSep Finset.univ fun d : Fin 3 => Φ (bCell c, 0, d))
        ∗ (bigSep Finset.univ fun c : Dev nD => bigSep Finset.univ fun j : Fin 32 => Φ (sCell c j, 0, 0))
        ∗ bigSep Finset.univ fun c : Dev nD => bigSep Finset.univ fun j : Fin 32 => Φ (rCell c j, 0, 0)) := by
  have hd : Disjoint barToks xToks := Finset.disjoint_left.mpr fun g h h' => by
    obtain ⟨c, -, rfl⟩ := Finset.mem_image.mp h
    obtain ⟨x, -, hx⟩ := Finset.mem_image.mp h'
    exact bCell_ne_xc c.1 x (congrArg Prod.fst hx).symm
  have h1 : bigSep barToks Φ = bigSep Finset.univ fun c : Dev nD => bigSep Finset.univ fun d : Fin 3 => Φ (bCell c, 0, d) := by
    unfold barToks
    rw [bigSep_image_of_injOn (fun x _ y _ h => Prod.ext (bCell_inj (congrArg Prod.fst h)) (congrArg (fun z => z.2.2) h)), bigSep_univ_prod]
  have h2 : bigSep xToks Φ = bigSep Finset.univ (fun x => Φ (xc x, 0, 0)) :=
    bigSep_image_of_injOn (fun x _ y _ h => xc_inj (congrArg Prod.fst h)) Φ
  rw [show bigSep (barToks ∪ xToks) Φ = iprop(bigSep barToks Φ ∗ bigSep xToks Φ) from bigSep_union hd, h1, h2, bigSep_xc (fun g => Φ (g, 0, 0))]

/-- Dealt to the devices that act on them: greetings by the greeting device, arrivals by the sender. -/
theorem around_bar (Φ : Dev nD → Fin 3 → sProp M) : (bigSep Finset.univ fun c : Dev nD => bigSep Finset.univ fun d : Fin 3 => Φ c d)
    = bigSep Finset.univ fun c : Dev nD => bigSep Finset.univ fun d : Fin 3 => Φ (dn c d) d := by
  rw [bigSep_univ_comm, bigSep_univ_comm (fun (c : Dev nD) (d : Fin 3) => Φ (dn c d) d)]
  exact bigSep_congr fun d _ => bigSep_univ_equiv (dnEquiv d) (fun c => Φ c d)
theorem around_r (Φ : Dev nD → Fin 32 → sProp M) : (bigSep Finset.univ fun c : Dev nD => bigSep Finset.univ fun j : Fin 32 => Φ c j)
    = bigSep Finset.univ fun c : Dev nD => bigSep Finset.univ fun j : Fin 32 => Φ (nbr c j) j := by
  rw [bigSep_univ_comm, bigSep_univ_comm (fun (c : Dev nD) (j : Fin 32) => Φ (nbr c j) j)]
  exact bigSep_congr fun j _ => bigSep_univ_equiv (nbrEquiv j) (fun c => Φ c j)

theorem mono_frame {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
end

/-! ## What each device keeps until the kernel starts -/

/-- The rights of a device to greet its neighbours. -/
def Greets (c : Dev nD) : sProp 𝕄 :=
  bigSep Finset.univ fun d : Fin 3 => iprop(dutyTok (ER (F := F)) (bCell (dn c d)) 0 d ∗ reached (ER (F := F)) (bCell (dn c d)) 0)
/-- The rights of a device: to greet, to be greeted, to open its transfers' cells and to fill its neighbours' rows. -/
def Live (c : Dev nD) : sProp 𝕄 := iprop(
  Greets (F := F) c
  ∗ atPos (ER (F := F)) (bCell c) 0 ∅ 0
  ∗ (bigSep Finset.univ fun j : Fin 32 => openTok (ER (F := F)) (sCell c j))
  ∗ (bigSep Finset.univ fun j : Fin 32 => openTok (ER (F := F)) (rCell c j))
  ∗ (bigSep Finset.univ fun j : Fin 32 => dutyTok (ER (F := F)) (sCell c j) 0 0)
  ∗ (bigSep Finset.univ fun j : Fin 32 => dutyTok (ER (F := F)) (rCell (nbr c j) j) 0 0))

theorem fund_cells (P : Dev nD → PVal F) :
    iprop((bigSep Finset.univ fun c : Dev nD => (semVal (bCell c) 0 : sProp 𝕄)) ∗ BI.own (ER (F := F) (launchOf barCells xCells (barToks ∪ xToks))))
      ⊢ iprop(|={Set.univ}=> ∃ κ : GSem nD τ sig → ℕ, (bigSep (barCells ∪ xCells) fun g => cellInv ER (Rd P) (κ g) g) ∗ bigSep Finset.univ (Live (F := F))) := by
  rw [← bigSep_barCells (fun g => (semVal g 0 : sProp 𝕄))]
  iintro H
  imod (Rounds.fund_launch (ER (F := F)) (Rd P) cells_disjoint (fun _ _ h => h) (barToks ∪ xToks) ∅) $$ H with ⟨%κ, -, HI, #HR, Hat, Hop, Htk⟩
  imodintro
  iexists κ
  isplitl [HI]; · iexact HI
  ihave Hat := (Entails.of_eq (bigSep_barCells (fun g => atPos (ER (F := F)) g 0 ∅ 0))) $$ Hat
  ihave Hop := (Entails.of_eq (bigSep_xCells (fun g => openTok (ER (F := F)) g))) $$ Hop
  ihave Htk := (Entails.of_eq ((bigSep_toks (fun x => dutyTok (ER (F := F)) x.1 x.2.1 x.2.2)).trans
    (congrArg₂ (fun X Y => iprop(X ∗ _ ∗ Y)) (around_bar (fun c d => dutyTok (ER (F := F)) (bCell c) 0 d)) (around_r (fun c j => dutyTok (ER (F := F)) (rCell c j) 0 0))))) $$ Htk
  icases Hop with ⟨HoS, HoR⟩
  icases Htk with ⟨HtB, HtS, HtR⟩
  have hgr : iprop((bigSep barCells fun g => reached (ER (F := F)) g 0) ∗ bigSep Finset.univ fun c : Dev nD => bigSep Finset.univ fun d : Fin 3 => dutyTok (ER (F := F)) (bCell (dn c d)) 0 d)
      ⊢ bigSep Finset.univ (Greets (F := F)) :=
    mono_frame fun c _ => mono_frame fun d _ => by
      iintro ⟨#HR, Ht⟩
      isplitl [Ht]; · iexact Ht
      iapply (show (bigSep barCells fun g => reached (ER (F := F)) g 0) ⊢ reached (ER (F := F)) (bCell (dn c d)) 0 from
        bigSep_elim (Finset.mem_image_of_mem _ (Finset.mem_univ _)))
      iexact HR
  ihave HtB := hgr $$ [HtB]
  · isplitr; · iexact HR
    iexact HtB
  unfold Live
  simp only [bigSep_sep']
  isplitl [HtB]; · iexact HtB
  isplitl [Hat]; · iexact Hat
  isplitl [HoS]; · iexact HoS
  isplitl [HoR]; · iexact HoR
  isplitl [HtS]; · iexact HtS
  iexact HtR

/-! ## What the devices may expect -/

theorem owed_bar (c : Dev nD) : (∑ d : Dev nD, Ob d Finset.univ (bCell c) ()) = 3 := by
  have h (d : Dev nD) : Ob d Finset.univ (bCell c) () = ∑ k : Fin 3, if d = dn c k then 1 else 0 := by
    unfold Ob
    rw [Finset.sum_apply, Finsupp.finset_sum_apply]
    refine Finset.sum_congr rfl fun k _ => ?_
    rw [tallyAt_apply]
    refine if_congr ⟨fun h => ?_, fun h => ?_⟩ rfl rfl
    · rw [(cell_dev h.1).1, dn_dn]
    · rw [h, dn_dn]; exact ⟨rfl, rfl⟩
  rw [Finset.sum_congr rfl fun d _ => h d, Finset.sum_comm]
  simp only [Finset.sum_ite_eq', Finset.mem_univ, if_true]
  rfl
theorem owed_r (c : Dev nD) (j : Fin 32) : (∑ d : Dev nD, Ow d Finset.univ (rCell c j) ()) = N := by
  have h (d : Dev nD) : Ow d Finset.univ (rCell c j) () = if d = nbr c j then N else 0 := by
    unfold Ow
    rw [Finset.sum_apply, Finsupp.finset_sum_apply, Finset.sum_eq_single j]
    · rw [tallyAt_apply]
      refine if_congr ⟨fun h => ?_, fun h => ?_⟩ rfl rfl
      · rw [(cell_dev h.1).1, nbr_nbr]
      · rw [h, nbr_nbr]; exact ⟨rfl, rfl⟩
    · intro i _ hi
      rw [tallyAt_apply, if_neg]
      rintro ⟨h, -⟩
      have := (cell_dev h).2
      exact hi (rSem_inj (by injection this)).symm
    · exact fun h => absurd (Finset.mem_univ j) h
  rw [Finset.sum_congr rfl fun d _ => h d, Finset.sum_ite_eq' Finset.univ (nbr c j) fun _ => N, if_pos (Finset.mem_univ _)]

theorem launch_bar (c : Dev nD) :
    tallyOn (bCell c) (launchCredit (Pipeline.owing fun d => Ob d Finset.univ) 0 (bCell c)) = (tallyAt (bCell c) () 3 : CellTallies nD τ sig Unit) := by
  unfold tallyAt; refine congrArg _ (Finsupp.ext fun u => ?_); cases u
  rw [Pipeline.launchCredit_owing, Finsupp.single_eq_same, owed_bar]
theorem launch_r (c : Dev nD) (j : Fin 32) :
    tallyOn (rCell c j) (launchCredit (Pipeline.owing fun d => Ow d Finset.univ) 0 (rCell c j)) = (tallyAt (rCell c j) () N : CellTallies nD τ sig Unit) := by
  unfold tallyAt; refine congrArg _ (Finsupp.ext fun u => ?_); cases u
  rw [Pipeline.launchCredit_owing, Finsupp.single_eq_same, owed_r]

theorem creds (c : Dev nD) : (Pipeline.launchCred (fun d => Ow d Finset.univ + Ob d Finset.univ) c : sProp 𝕄)
    ⊢ iprop(cred (tallyAt (bCell c) () 3) ∗ bigSep Finset.univ fun j : Fin 32 => cred (tallyAt (rCell c j) () N)) := by
  rw [Pipeline.launchCred_add]
  iintro ⟨HW, HB⟩
  isplitl [HB]
  · rw [← launch_bar]
    iapply (Pipeline.launchCred_elim (fun d => Ob d Finset.univ) c (.reg barS.sem))
    iexact HB
  · simp only [← launch_r]
    have hinj : Function.Injective fun j : Fin 32 => (SemLoc.dma (rSem j) : SemLoc sig) := fun i j h => rSem_inj (by injection h)
    iapply (show (Pipeline.launchCred (fun d => Ow d Finset.univ) c : sProp 𝕄)
        ⊢ bigSep Finset.univ fun j : Fin 32 => cred (tallyOn (rCell c j) (launchCredit (Pipeline.owing fun d => Ow d Finset.univ) 0 (rCell c j))) from by
      unfold Pipeline.launchCred
      exact (bigSep_subset (Finset.subset_univ (Finset.univ.image fun j : Fin 32 => (SemLoc.dma (rSem j) : SemLoc sig)))).trans
        (Entails.of_eq (bigSep_image_of_injOn hinj.injOn _)))
    iexact HW

/-! ## The launch element -/

def u₀ : UU := (initOf (Pipeline.PerCore.cells (Pipeline.pinD (pcfgs (F := F)) adm) phinj) (Pipeline.PerCore.launchToks (Pipeline.pinD (pcfgs (F := F)) adm) phinj),
  (launchOf barCells xCells (barToks ∪ xToks), (1 : Counters)))

theorem u₀_split : (ownU (u₀ (F := F)) : sProp 𝕄)
    ⊢ iprop(BI.own (EP (F := F) (initOf (Pipeline.PerCore.cells (Pipeline.pinD (pcfgs (F := F)) adm) phinj) (Pipeline.PerCore.launchToks (Pipeline.pinD (pcfgs (F := F)) adm) phinj)))
        ∗ BI.own (ER (F := F) (launchOf barCells xCells (barToks ∪ xToks)))) := by
  unfold u₀
  iintro H
  ihave H := (ownU_pair _ _) $$ H
  icases H with ⟨HP, HX⟩
  isplitl [HP]; · iexact HP
  ihave H := (own_pair_emb (embR : Emb (UB × Counters) 𝕄) (launchOf barCells xCells (barToks ∪ xToks)) (1 : Counters)) $$ HX
  icases H with ⟨HX, -⟩
  iexact HX

/-- The level assignment, the cells' records and a device's rights and debts: what rides along until the kernel starts. -/
def Ride (P : Dev nD → PVal F) (c : Dev nD) : sProp 𝕄 := iprop((∃ κ, Inv P κ) ∗ Live (F := F) c
  ∗ (cred (tallyAt (bCell c) () 3) ∗ bigSep Finset.univ fun j : Fin 32 => cred (tallyAt (rCell c j) () N))
  ∗ owes (c : Thread nD τ) (Ow c Finset.univ + Ob c Finset.univ) ∅)

end Cert.LnProof
-- ==== Proof.Entry.lean ====
/-
The state the kernel starts from on one device, made out of what @main hands it.
-/
module

public import proofs.«01_k».proof.Proof.Ghost

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (P : Dev nD → PVal F) (κ : GSem nD τ sig → ℕ)

/-- The place of a named buffer on device `c`, whole. -/
abbrev pt (c : Dev nD) (r : Ref sig .tc) (f : Buf (Elt F) ((c : Thread nD τ).loc r)) : sProp 𝕄 := (c : Thread nD τ).loc r ↦{fullShare} f

/-! ## The cells opened -/

theorem open_cells (g : Fin 32 → GSem nD τ sig) (hg : ∀ j, g j ∈ barCells ∪ xCells) :
    iprop(Inv P κ ∗ (bigSep Finset.univ fun j => openTok (ER (F := F)) (g j)) ∗ bigSep Finset.univ fun j => semVal (g j) 0)
      ⊢ |={Set.univ}=> iprop((bigSep Finset.univ fun j => atPos (ER (F := F)) (g j) 0 ∅ 0) ∗ bigSep Finset.univ fun j => reached (ER (F := F)) (g j) 0) := by
  have h : iprop(Inv P κ ∗ bigSep Finset.univ fun j : Fin 32 => iprop(openTok (ER (F := F)) (g j) ∗ semVal (g j) 0))
      ⊢ bigSep Finset.univ fun j : Fin 32 => iprop(|={Set.univ}=> (atPos (ER (F := F)) (g j) 0 ∅ 0 ∗ reached (ER (F := F)) (g j) 0)) := by
    refine mono_frame fun j _ => ?_
    iintro ⟨#HI, Ho, Hv⟩
    iapply (Rounds.cell_open (ER (F := F)) (Rd P) (κ := κ (g j)) (g := g j) (Set.mem_univ _))
    isplitr; · iapply (Inv_cell P κ (hg j)); iexact HI
    isplitl [Ho] <;> iassumption
  rw [← bigSep_sep', ← bigSep_sep']
  exact h.trans (bigSep_fupd _ _)

/-! ## The buffers cut up -/

/-- The receive buffer, by the steps its blocks belong to. -/
theorem rows_of (c : Dev nD) (f : RVal F) : pt c main_v41_1 f ⊢ bigSep Finset.univ fun j : Fin 32 => iprop(∃ f, rowPts (F := F) c (blk c j) fullShare f) := by
  have h : pt (F := F) c main_v41_1 f = bigSep Finset.univ fun b : Fin 32 => rowPts (F := F) c b fullShare f := by
    unfold pt rowPts
    rw [rowM_cover]
    exact pointsTo_biUnion _ _ fun b _ b' _ h => rowM_disjoint h
  rw [h, bigSep_univ_equiv (blkEquiv c)]
  refine bigSep_mono fun j _ => ?_
  show rowPts (F := F) c (blk c j) fullShare f ⊢ iprop(∃ f, rowPts (F := F) c (blk c j) fullShare f)
  iintro H
  iexists f
  iexact H
/-- The transfers' half of the partial sums, the blocks sent across y kept. -/
theorem srcs_of (q : PosShare TreeShare) (c : Dev nD) : ((c : Thread nD τ).loc main_arg0 ↦{q} P c : sProp 𝕄)
    ⊢ bigSep Finset.univ fun j : Fin 32 => if isY j then srcPts P c (blk c j) q else iprop(emp) := by
  have h : ((c : Thread nD τ).loc main_arg0 ↦{q} P c : sProp 𝕄) = bigSep Finset.univ fun b : Fin 32 => srcPts P c b q := by
    unfold srcPts
    rw [srcM_cover]
    exact pointsTo_biUnion _ _ fun b _ b' _ h => srcM_disjoint h
  rw [h, bigSep_univ_equiv (blkEquiv c)]
  refine bigSep_mono fun j _ => ?_
  by_cases hj : isY j
  · rw [if_pos hj]; exact BI.Entails.refl _
  · rw [if_neg hj]; show srcPts P c (blk c j) q ⊢ iprop(emp); iintro -; iempintro

/-! ## What the transfers start from -/

theorem toks_of (q : PosShare TreeShare) (c : Dev nD) :
    iprop((bigSep Finset.univ fun j : Fin 32 => dutyTok (ER (F := F)) (rCell (nbr c j) j) 0 0) ∗ (bigSep Finset.univ fun j : Fin 32 => dutyTok (ER (F := F)) (sCell c j) 0 0)
      ∗ (bigSep Finset.univ fun j : Fin 32 => reached (ER (F := F)) (sCell c j) 0) ∗ (bigSep Finset.univ fun j : Fin 32 => atPos (ER (F := F)) (sCell c j) 0 ∅ 0)
      ∗ bigSep Finset.univ fun j : Fin 32 => if isY j then srcPts P c (blk c j) q else iprop(emp))
    ⊢ bigSep Finset.univ fun j : Fin 32 => Tok P q c j := by
  unfold Tok
  simp only [bigSep_sep']
  exact BI.Entails.refl _

theorem recvs_of (c : Dev nD) :
    iprop((bigSep Finset.univ fun j : Fin 32 => atPos (ER (F := F)) (rCell c j) 0 ∅ 0) ∗ bigSep Finset.univ fun j : Fin 32 => cred (tallyAt (rCell c j) () N))
    ⊢ RR (F := F) c (Rset 0) := by
  rw [← bigSep_sep']
  unfold RR
  exact bigSep_mono fun j _ => by
    rw [if_pos (show j ∈ Rset 0 from Finset.mem_filter.mpr ⟨Finset.mem_univ _, Nat.zero_le _⟩)]
    exact BI.Entails.refl _

theorem hails_of (c : Dev nD) :
    iprop(Greets (F := F) c ∗ (bigSep Finset.univ fun j : Fin 32 => iprop(∃ f, rowPts (F := F) c (blk c j) fullShare f))
      ∗ bigSep Finset.univ fun j : Fin 32 => reached (ER (F := F)) (rCell c j) 0)
    ⊢ iprop(Hail (F := F) c 0 ∗ Hail c 1 ∗ Hail c 2) := by
  have h : bigSep Finset.univ (Hail (F := F) c) = iprop(Greets (F := F) c ∗ bigSep Finset.univ fun d => Give (F := F) c d) := by
    have e : Hail (F := F) c = fun d => iprop((dutyTok (ER (F := F)) (bCell (dn c d)) 0 d ∗ reached (ER (F := F)) (bCell (dn c d)) 0) ∗ Give (F := F) c d) := by
      funext d; unfold Hail; exact (equiv_iff.mp ⟨BI.sep_assoc, BI.sep_assoc'⟩).symm
    rw [e, bigSep_sep']
    rfl
  have h3 : bigSep Finset.univ (Hail (F := F) c) = iprop(Hail (F := F) c 0 ∗ Hail c 1 ∗ Hail c 2) :=
    bigSep_univ_eq_bigSepL [0, 1, 2] (by decide) (by decide) _
  rw [← h3, h, show (bigSep Finset.univ fun d => Give (F := F) c d) = bigSep Finset.univ (Own (F := F) c) from (deal _).symm, ← bigSep_sep']
  exact BI.Entails.refl _

/-- What the communication starts from. -/
theorem core_zero (q : PosShare TreeShare) (c : Dev nD) (f : RVal F) :
    iprop(Inv P κ ∗ Live (F := F) c ∗ (cred (tallyAt (bCell c) () 3) ∗ bigSep Finset.univ fun j : Fin 32 => cred (tallyAt (rCell c j) () N))
      ∗ pt c main_v41_1 f ∗ ((c : Thread nD τ).loc main_arg0 ↦{q} P c)
      ∗ (bigSep Finset.univ fun j : Fin 32 => semVal (sCell c j) 0) ∗ (bigSep Finset.univ fun j : Fin 32 => semVal (rCell c j) 0))
    ⊢ |={Set.univ}=> Core P q c 0 := by
  unfold Live
  iintro ⟨#HI, ⟨HG, Hat, HoS, HoR, HtS, HtR⟩, ⟨HcB, HcR⟩, Hrow, Hsrc, HvS, HvR⟩
  imod (open_cells P κ (sCell c) (mem_s c)) $$ [HoS HvS] with ⟨HaS, HrS⟩
  · isplitr; · iexact HI
    isplitl [HoS] <;> iassumption
  imod (open_cells P κ (rCell c) (mem_r c)) $$ [HoR HvR] with ⟨HaR, HrR⟩
  · isplitr; · iexact HI
    isplitl [HoR] <;> iassumption
  imodintro
  rw [Core, if_pos rfl]
  isplitr [HaR HcR]
  · isplitl [HG Hrow HrR]
    · iapply (hails_of c)
      isplitl [HG]; · iexact HG
      isplitl [Hrow]; · iapply (rows_of c f); iexact Hrow
      iexact HrR
    isplitl [Hat]; · iexact Hat
    isplitl [HcB]; · iexact HcB
    iapply (toks_of P q c)
    isplitl [HtR]; · iexact HtR
    isplitl [HtS]; · iexact HtS
    isplitl [HrS]; · iexact HrS
    isplitl [HaS]; · iexact HaS
    iapply (srcs_of P q c)
    iexact Hsrc
  · iapply (recvs_of c)
    isplitl [HaR] <;> iassumption

/-! ## What the transfers leave -/

theorem core_last (q : PosShare TreeShare) (c : Dev nD) :
    Core P q c 32 ⊢ iprop((bigSep Finset.univ fun j : Fin 32 => semVal (sCell c j) 0) ∗ (bigSep Finset.univ fun j : Fin 32 => semVal (rCell c j) 0) ∗ semVal (bCell c) 0) := by
  have h (j : Fin 32) : j ∉ Rset 32 := fun h => by
    have := (Finset.mem_filter.mp h).2
    have := j.isLt
    omega
  rw [Core, if_neg (by decide), if_pos rfl]
  unfold ZZ RR
  simp only [Finset.notMem_empty, if_false, h]
  exact BI.Entails.refl _

/-! ## @main's buffers -/

variable (m : (ℓ : Loc nD τ sig) → Buf (Elt F) ℓ)

theorem V7_arg0 (c : Dev nD) : V7 m c main_arg0 = m ((c : Thread nD τ).loc main_arg0) :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <| (V1_of m c main_arg0 (by decide)).trans rfl
theorem V7_arg1 (c : Dev nD) : V7 m c main_arg1 = m ((c : Thread nD τ).loc main_arg1) :=
  (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <| (V1_of m c main_arg1 (by decide)).trans rfl
theorem V7_arg2 (c : Dev nD) : V7 m c main_arg2 = m ((c : Thread nD τ).loc main_arg2) :=
  (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <| (V1_of m c main_arg2 (by decide)).trans rfl

/-- The buffers the kernel works on, in a list. -/
def used : List (DevRef τ sig) := [Proc.devRef .tc main_arg0, Proc.devRef .tc main_arg1, Proc.devRef .tc main_arg2, Proc.devRef .tc main_v1,
  Proc.devRef .tc main_v41_0, Proc.devRef .tc main_v41_1, Proc.devRef .tc main_v40]

theorem used_sub : used.toFinset ⊆ Pipeline.ucRefs τ sig := by
  intro r hr
  simp only [used, List.mem_toFinset, List.mem_cons, List.not_mem_nil, or_false] at hr
  rcases hr with rfl | rfl | rfl | rfl | rfl | rfl | rfl <;>
    exact Finset.mem_filter.mpr ⟨StableHlo.devRef_mem_tcRefs _, by decide⟩

theorem held_used (c : Dev nD) : (StableHlo.held (c : Thread nD τ) (Pipeline.ucRefs τ sig) (V7 m c) : sProp 𝕄)
    ⊢ iprop(pt c main_arg0 (m ((c : Thread nD τ).loc main_arg0)) ∗ pt c main_arg1 (m ((c : Thread nD τ).loc main_arg1)) ∗ pt c main_arg2 (m ((c : Thread nD τ).loc main_arg2))
      ∗ pt c main_v1 (V7 m c main_v1) ∗ pt c main_v41_0 (V7 m c main_v41_0) ∗ pt c main_v41_1 (V7 m c main_v41_1) ∗ pt c main_v40 (tbl c)) := by
  rw [← V7_arg0 m c, ← V7_arg1 m c, ← V7_arg2 m c, ← table_eq m c]
  unfold StableHlo.held
  exact (bigSep_subset used_sub).trans (Entails.of_eq (bigSep_eq_bigSepL_of_eq used rfl (by decide) _))

end Cert.LnProof
-- ==== Proof.Launch.lean ====
/-
The kernel's region of @main, and the run of the whole mesh.
-/
module

public import proofs.«01_k».proof.Proof.Entry
public import Idealize.ShloMosaic.Lib.Quiescent

@[expose] public section

set_option maxRecDepth 16384

noncomputable section

namespace Cert.LnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-! ## The kernel's own semaphores -/

abbrev Own3 : Type := (Fin 32 ⊕ Fin 32) ⊕ Unit
def osem : Own3 → SemLoc sig
  | .inl (.inl j) => .dma (sSem j)
  | .inl (.inr j) => .dma (rSem j)
  | .inr () => .dma cSem

theorem osem_scoped : ∀ k : Own3, (osem k).isScoped .tc = true := by decide +kernel
theorem osem_inj : Function.Injective osem := by decide +kernel

theorem ownSems_split (c : Dev nD) : (Pipeline.ownSems0 osem c : sProp 𝕄)
    = iprop(((bigSep Finset.univ fun j : Fin 32 => semVal (sCell c j) 0) ∗ bigSep Finset.univ fun j : Fin 32 => semVal (rCell c j) 0)
      ∗ semVal ((c : Thread nD τ), .dma cSem) 0) := by
  unfold Pipeline.ownSems0
  rw [bigSep_univ_sum, bigSep_univ_sum, bigSep_univ_eq_bigSepL [()] (by decide) (by decide)]
  rfl

theorem ownFacts : Pipeline.OwnSemFacts spec0 osem where
  isScoped := osem_scoped
  inj := osem_inj
  disj := by decide +kernel

/-! ## The windows' arrays -/

theorem arrays_list (c : Dev nD) (X : (w : Fin (cfgD (F := F) c).W) → Buf (Elt F) (((cfgD (F := F) c).win w).arr.view.loc (c : Thread nD τ))) :
    (dats m 0 c).arrays X = iprop(((c : Thread nD τ).loc main_arg0 ↦{qw} X 0) ∗ pt c main_arg1 (X 1) ∗ pt c main_v1 (X 2) ∗ pt c main_v41_0 (X 3)) := by
  unfold Pipeline.Dat.arrays
  rw [bigSep_congr (Ψ := fun w : Fin (cfgD (F := F) c).W => (((cfgD (F := F) c).win w).arr.view.loc (c : Thread nD τ) ↦{(dats m 0 c).share w} X w : sProp 𝕄))
    fun w _ => by rw [(arr_whole0 w).set_eq_univ]]
  rw [bigSep_W0]
  rfl

theorem owed_last (c : Dev nD) : owed c 32 = 0 := by
  rw [owed, if_neg (by decide), show Fset 32 = ∅ from Fset_late (t := 32) (by omega), Ow_empty]

theorem stage_lev : ∀ (w : Fin 4) (s : Fin (spec0 w).nbuf), lev ((spec0 w).sem s).val = 0 := by decide +kernel

theorem may_wait (c : Dev nD) (n : ℕ) (q : DmaSem sig) (hq : lev q.val = 0) : levAts L lv ⊢ (MayWait c (.dma q) () (owed c n) : sProp 𝕄) := by
  rw [owed]
  split
  · exact mayWait_stage c q hq _ _
  · have := mayWait_stage (F := F) c q hq (Fset n) ∅
    rwa [Ob_empty, add_zero] at this

/-! ## The region -/

/-- What the communication starts from and how it is kept. -/
def X0 (c : Dev nD) : sProp 𝕄 := iprop((∃ κ, Inv (PP m) κ ∗ Core (PP m) qs c 0) ∗ semVal ((c : Thread nD τ), .dma cSem) 0)
/-- What is left at the end. -/
def post0 (c : Dev nD) : sProp 𝕄 := iprop((((c : Thread nD τ).loc main_arg0 ↦{qw} m ((c : Thread nD τ).loc main_arg0)) ∗ pt c main_arg1 (m ((c : Thread nD τ).loc main_arg1))
  ∗ pt c main_arg2 (m ((c : Thread nD τ).loc main_arg2)) ∗ pt c main_v41_0 ((dats m 0 c).arrAt 3 (cfgD (F := F) c).N) ∗ semVal (bCell c) 0)
  ∗ ∃ W, owes (c.tc : Thread nD τ) (0 : CellTallies nD τ sig Unit) W)

theorem table_held (c : Dev nD) : (Pipeline.prefHeld (pcfgs (F := F) 0).pre c (fun _ => fullShare) (adm c 0).1 : sProp 𝕄) = pt c main_v40 (tbl c) := by
  unfold Pipeline.prefHeld
  exact (bigSep_univ_eq_bigSepL (I := Fin 1) [0] (by decide) (by decide) _).trans rfl

theorem entry0 (c : Dev nD) : iprop((StableHlo.held (c : Thread nD τ) (Pipeline.ucRefs τ sig) (V7 m c) ∗ Ride (PP m) c) ∗ Pipeline.ownSems0 osem c ∗ levAts L lv)
    ⊢ |={Set.univ}=> iprop((dats m 0 c).arrays ((dats m 0 c).arrAt · 0) ∗ Pipeline.prefHeld (pcfgs (F := F) 0).pre c (fun _ => fullShare) (adm c 0).1
        ∗ (dats m 0 c).owesAt () 0 ∗ X0 m c ∗ pt c main_arg2 (m ((c : Thread nD τ).loc main_arg2))) := by
  rw [ownSems_split, arrays_list]
  unfold Ride X0
  iintro ⟨⟨Hh, ⟨%κ, #HI⟩, HL, HC, Ho⟩, ⟨⟨HvS, HvR⟩, Hcs⟩, -⟩
  ihave Hu := (held_used m c) $$ Hh
  icases Hu with ⟨H0, H1, H2, Hg, Hout, Hrow, Htb⟩
  ihave H0 := (show pt c main_arg0 (PP m c) ⊢ iprop(((c : Thread nD τ).loc main_arg0 ↦{qw} PP m c) ∗ ((c : Thread nD τ).loc main_arg0 ↦{qs} PP m c)) from
    (pointsTo_share (PosShare.mem_left_op_right fullShare)).1) $$ H0
  icases H0 with ⟨H0w, H0s⟩
  imod (core_zero (PP m) κ qs c _) $$ [HL HC Hrow H0s HvS HvR] with Hcore
  · isplitr; · iexact HI
    isplitl [HL]; · iexact HL
    isplitl [HC]; · iexact HC
    isplitl [Hrow]; · iexact Hrow
    isplitl [H0s]; · iexact H0s
    isplitl [HvS] <;> iassumption
  imodintro
  isplitl [H0w H1 Hg Hout]
  · isplitl [H0w]; · iexact H0w
    isplitl [H1]; · iexact H1
    isplitl [Hg]; · iexact Hg
    iexact Hout
  isplitl [Htb]
  · rw [table_held]
    iexact Htb
  isplitl [Ho]
  · iapply (of_owes m c 0)
    unfold Owe
    iexists _
    iexact Ho
  isplitr [H2]
  · isplitl [Hcore]
    · iexists κ
      isplitr; · iexact HI
      iexact Hcore
    iexact Hcs
  iexact H2

theorem in0 (c : Dev nD) : iprop(X0 m c ∗ Pipeline.prefHeld (pcfgs (F := F) 0).pre c (fun _ => fullShare) (adm c 0).1 ∗ Pipeline.scopedRest spec0 c) ⊢ (dats m 0 c).Φ 0 := by
  show _ ⊢ iprop(∃ κ, Inv (PP m) κ ∗ Core (PP m) qs c 0 ∗ Side c)
  rw [scopedRest0_eq, table_held]
  unfold X0 Side tblPts vecPts
  iintro ⟨⟨⟨%κ, #HI, HC⟩, Hcs⟩, Htb, Hv⟩
  iexists κ
  isplitr; · iexact HI
  isplitl [HC]; · iexact HC
  isplitl [Htb]; · iexact Htb
  isplitl [Hv]; · iexact Hv
  iexact Hcs

theorem out0 (c : Dev nD) : (dats m 0 c).Φ (Fin.last (cfgD (F := F) c).N) ⊢ iprop(semVal (bCell c) 0 ∗ Pipeline.ownSems0 osem c ∗ Pipeline.scopedRest spec0 c) := by
  show iprop(∃ κ, Inv (PP m) κ ∗ Core (PP m) qs c 32 ∗ Side c) ⊢ _
  rw [scopedRest0_eq, ownSems_split]
  unfold Side vecPts
  iintro ⟨%κ, -, HC, -, Hv, Hcs⟩
  ihave HC := (core_last (PP m) qs c) $$ HC
  icases HC with ⟨HvS, HvR, Hb⟩
  isplitl [Hb]; · iexact Hb
  isplitr [Hv]
  · isplitr [Hcs]
    · isplitl [HvS] <;> iassumption
    iexact Hcs
  iexact Hv

theorem exit0 (c : Dev nD) : iprop((dats m 0 c).arrays ((dats m 0 c).arrAt · (cfgD (F := F) c).N) ∗ (dats m 0 c).owesAt () (Fin.last (cfgD (F := F) c).N) ∗ semVal (bCell c) 0
      ∗ pt c main_arg2 (m ((c : Thread nD τ).loc main_arg2)))
    ⊢ |={Set.univ}=> post0 m c := by
  rw [arrays_list, (dats m 0 c).arrAt_in 0 rfl, (dats m 0 c).arrAt_in 1 rfl]
  unfold post0
  iintro ⟨⟨H0, H1, -, H3⟩, Ho, Hb, H2⟩
  imodintro
  isplitr [Ho]
  · isplitl [H0]; · iexact H0
    isplitl [H1]; · iexact H1
    isplitl [H2]; · iexact H2
    isplitl [H3]; · iexact H3
    iexact Hb
  ihave Ho := (show (dats m 0 c).owesAt () (Fin.last (cfgD (F := F) c).N) ⊢ Owe (F := F) c (owed c 32) from owes_of m c (Fin.last _)) $$ Ho
  rw [owed_last]
  unfold Owe
  iexact Ho

/-- The kernel's region. -/
def R0 : Pipeline.PerCore.RegionSeg (pcfgs (F := F)) adm (dats m) () defs₀ 𝒱₀ L lv 0 where
  win := winFacts0.to₀
  block_pos := block_pos0
  stage_whole := stage_whole0
  K := Own3
  osem := osem
  ho := ownFacts
  hbody c := (body_obligation m c).loose
  hwaits c := Pipeline.PerCore.cellsWaits_intro (Pipeline.pinD (pcfgs (F := F)) adm) (dats m) () 0 c fun w s t => may_wait c t.val _ (stage_lev w s)
  pre c := iprop(StableHlo.held (c : Thread nD τ) (Pipeline.ucRefs τ sig) (V7 m c) ∗ Ride (PP m) c)
  post := post0 m
  X := X0 m
  Y c := semVal (bCell c) 0
  Z c := pt c main_arg2 (m ((c : Thread nD τ).loc main_arg2))
  hentry := entry0 m
  hin := in0 m
  hout := out0 m
  hexit := exit0 m

/-! ## The whole mesh -/

/-- @main, item by item, on device `c`. -/
def items (c : Dev nD) : List (Pipeline.PerCore.Seg (pcfgs (F := F)) adm (dats m) () defs₀ 𝒱₀ L lv) :=
  [.host (seg0 m 𝒱₀ L lv (fun _ => Ride (PP m)) c), .host (seg1 m 𝒱₀ L lv (fun _ => Ride (PP m))), .host (seg2 m 𝒱₀ L lv (fun _ => Ride (PP m))),
    .host (seg3 m 𝒱₀ L lv (fun _ => Ride (PP m))), .host (seg4 m 𝒱₀ L lv (fun _ => Ride (PP m))), .host (seg5 m 𝒱₀ L lv (fun _ => Ride (PP m))),
    .host (seg6 m 𝒱₀ L lv (fun _ => Ride (PP m))), .region (R0 m)]

/-- What the launch gives one device: the first one gets the cells of the whole mesh to set up. -/
def Start0 (c : Dev nD) : sProp 𝕄 := if c = 0 then BI.own (ER (F := F) (launchOf barCells xCells (barToks ∪ xToks))) else iprop(emp)
theorem starts : bigSep Finset.univ (Start0 (F := F)) = BI.own (ER (F := F) (launchOf barCells xCells (barToks ∪ xToks))) := by
  rw [bigSep_univ_at (Start0 (F := F)) 0, bigSep_congr (Φ := Start0 (F := F)) (Ψ := fun _ => iprop(emp)) (s := Finset.univ.erase 0)
    fun c hc => if_neg (Finset.ne_of_mem_erase hc), show (bigSep (Finset.univ.erase (0 : Dev nD)) fun _ => (iprop(emp) : sProp 𝕄)) = iprop(emp) from bigSep_emp_const _]
  unfold Start0
  rw [if_pos rfl]
  exact equiv_iff.mp sep_emp

theorem sems_bar (c : Dev nD) : (unscopedSems0 c : sProp 𝕄) = semVal (bCell c) 0 := by
  unfold unscopedSems0
  rw [show (Finset.univ.filter fun sm : SemLoc sig => ¬ sm.isScoped .tc) = {SemLoc.reg barS.sem} from by decide +kernel, bigSep_singleton]

/-- What the launch gives every device, kind by kind. -/
theorem six {A B C D E G : Dev nD → sProp 𝕄} : (bigSep Finset.univ fun c => iprop(A c ∗ B c ∗ C c ∗ D c ∗ E c ∗ G c))
    = iprop(bigSep Finset.univ A ∗ bigSep Finset.univ B ∗ bigSep Finset.univ C ∗ bigSep Finset.univ D ∗ bigSep Finset.univ E ∗ bigSep Finset.univ G) := by
  rw [bigSep_sep', bigSep_sep', bigSep_sep', bigSep_sep', bigSep_sep']

/-- What a device owes at the start. -/
def Od (c : Dev nD) : CellTallies nD τ sig Unit := Ow c Finset.univ + Ob c Finset.univ

theorem ride_of (κ : GSem nD τ sig → ℕ) (c : Dev nD) : iprop(Inv (PP m) κ ∗ Live (F := F) c ∗ owes (c.tc : Thread nD τ) (Od c) ∅ ∗ Pipeline.launchCred Od c) ⊢ Ride (PP m) c := by
  unfold Ride
  iintro ⟨#HI, HL, Ho, HC⟩
  isplitr; · iexists κ; iexact HI
  isplitl [HL]; · iexact HL
  isplitl [HC]; · iapply (show Pipeline.launchCred Od c ⊢ _ from creds c); iexact HC
  iexact Ho

theorem rides_of (κ : GSem nD τ sig → ℕ) : iprop(Inv (PP m) κ ∗ bigSep Finset.univ (Live (F := F)) ∗ (bigSep Finset.univ fun c : Dev nD => owes (c.tc : Thread nD τ) (Od c) ∅)
    ∗ bigSep Finset.univ fun c : Dev nD => Pipeline.launchCred Od c) ⊢ bigSep Finset.univ (Ride (PP m)) := by
  rw [← bigSep_sep', ← bigSep_sep']
  exact mono_frame fun c _ => ride_of m κ c

theorem bufs_held (c : Dev nD) : (unscopedBufs c (fun b => m ((c.tc : Thread nD τ).loc b)) : sProp 𝕄) ⊢ StableHlo.held (c : Thread nD τ) (Pipeline.ucRefs τ sig) (V0 m c) := by
  rw [← Pipeline.unscopedBufs_held (Ix := Unit) (Name := ℕ) (U := UU) (Lvl := ℕ) c (V0 m c)]

theorem bars_of : (bigSep Finset.univ fun c : Dev nD => (unscopedSems0 c : sProp 𝕄)) = bigSep Finset.univ fun c : Dev nD => semVal (bCell c) 0 :=
  bigSep_congr fun c _ => sems_bar c

/-- How the launch's pieces go together. -/
theorem glue {A B C D E G H R X Lv : sProp 𝕄} {I : (GSem nD τ sig → ℕ) → sProp 𝕄} [∀ κ, BI.Persistent (I κ)] [BI.Persistent Lv]
    (hA : A ⊢ H) (hF : iprop(B ∗ G) ⊢ |={Set.univ}=> iprop(∃ κ, I κ ∗ X)) (hR : ∀ κ, iprop((I κ ∗ Lv) ∗ X ∗ C ∗ D) ⊢ R) :
    iprop((A ∗ B ∗ C ∗ D ∗ E ∗ G) ∗ Lv) ⊢ |={Set.univ}=> iprop(H ∗ R) := by
  iintro ⟨⟨HA, HB, HC, HD, -, HG⟩, #HL⟩
  imod hF $$ [HB HG] with ⟨%κ, #HI, HX⟩
  · isplitl [HB] <;> iassumption
  imodintro
  isplitl [HA]; · iapply hA; iexact HA
  iapply (hR κ)
  isplitr
  · isplitr; · iexact HI
    iexact HL
  isplitl [HX]; · iexact HX
  isplitl [HC] <;> iassumption

theorem launch_mesh (ρ : Dev nD → PrngReg) :
    iprop((bigSep Finset.univ fun c : Dev nD => iprop(unscopedBufs c (fun b => m ((c.tc : Thread nD τ).loc b)) ∗ unscopedSems0 c
          ∗ owes (c.tc : Thread nD τ) (Od c) ∅ ∗ Pipeline.launchCred Od c ∗ prngReg c (ρ c) ∗ Start0 c)) ∗ levAts L lv)
      ⊢ |={Set.univ}=> bigSep Finset.univ fun c : Dev nD => iprop(StableHlo.held (c : Thread nD τ) (Pipeline.ucRefs τ sig) (V0 m c) ∗ Ride (PP m) c) := by
  rw [six, bars_of, starts, bigSep_sep']
  exact glue (bigSep_mono fun c _ => bufs_held m c) (fund_cells (PP m)) (fun κ => rides_of m κ)

/-- What device `c` ends with. -/
def Final (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1)
    ∧ s.mem ((c.tc : Thread nD τ).loc main_arg2) = m ((c.tc : Thread nD τ).loc main_arg2))
  ∧ s.mem ((c.tc : Thread nD τ).loc main_v41_0) = (dats m 0 c).arrAt 3 (cfgD (F := F) c).N ∧ s.sem (bCell c) = 0

theorem unscoped_bar : ∀ sm : SemLoc sig, sm.isScoped .tc = false → sm = .reg barS.sem := by decide +kernel

-- the launch theorem's implicit arguments are found by unfolding plain definitions in their types
set_option backward.isDefEq.respectTransparency.types false in
/-- Every run of the mesh ends, with the arguments as they were, the output as the pipeline leaves it and every counter at zero. -/
theorem run_main (ρ : Dev nD → PrngReg) :
    θ_run (defs (F := F)) (onTc (τ := τ) (main (F := F))) ⟨m, fun _ => 0, ρ⟩ (fun r => (∀ c : Dev nD, Final m c r.2) ∧ r.2.sem = fun _ => 0) := by
  refine Pipeline.PerCore.θ_run_regions_kit_sems (pcfgs (F := F)) adm (dats m) () phinj EP defs₀ 𝒱₀ L lv m ρ main (items m)
    (fun c Q => by
      rewrite [main_chain c, Pipeline.PerCore.Seg.run_eq_chain,
        show (items m c).map Pipeline.PerCore.Seg.prog = [StableHlo.seq (hostOps0 c), StableHlo.seq hostOps0_1, StableHlo.seq hostOps0_2, StableHlo.seq hostOps0_3,
          StableHlo.seq hostOps0_4, StableHlo.seq hostOps0_5, StableHlo.seq hostOps0_6, Prog.lift (.customCall (Pipeline.entry 0) ())] from rfl]
      dsimp (config := { failIfUnchanged := false }) only
      exact .rfl)
    (fun c => by
      unfold items
      simp only [Pipeline.PerCore.Seg.pipes_host, Pipeline.PerCore.Seg.pipes_region, Pipeline.PerCore.Seg.pipes_nil]
      decide)
    Od L_of_ne (Start0 (F := F)) (u₀ (F := F)) ?_
    (T₀ := fun c => iprop(StableHlo.held (c : Thread nD τ) (Pipeline.ucRefs τ sig) (V0 m c) ∗ Ride (PP m) c))
    (Tₙ := fun c => iprop(((c : Thread nD τ).loc main_arg0 ↦{qw} m ((c : Thread nD τ).loc main_arg0)) ∗ pt c main_arg1 (m ((c : Thread nD τ).loc main_arg1))
      ∗ pt c main_arg2 (m ((c : Thread nD τ).loc main_arg2)) ∗ pt c main_v41_0 ((dats m 0 c).arrAt 3 (cfgD (F := F) c).N) ∗ semVal (bCell c) 0))
    (hch := fun c => ⟨.rfl, .rfl, .rfl, .rfl, .rfl, .rfl, .rfl, .rfl, .rfl⟩)
    (hinit := launch_mesh m ρ) (QY := Final m) (hfin := fun c s' => ?_)
    (hQ := fun s h hs => ⟨h, sem_eq_zero hs fun c sm hsm => by rw [unscoped_bar sm hsm]; exact (h c).2.2⟩)
  · rw [starts]
    iintro H
    ihave H := (u₀_split (F := F)) $$ H
    imodintro
    iexact H
  · iintro ⟨⟨H0, H1, H2, H3, Hb⟩, HSI⟩
    unfold pt
    icombine HSI H0 gives %h0
    icombine HSI H1 gives %h1
    icombine HSI H2 gives %h2
    icombine HSI H3 gives %h3
    icombine HSI Hb gives %hb
    imodintro
    isplitr
    · ipureintro
      exact ⟨⟨Buf.eq_of_forall_mem_univ h0, Buf.eq_of_forall_mem_univ h1, Buf.eq_of_forall_mem_univ h2⟩, Buf.eq_of_forall_mem_univ h3, by simpa using hb⟩
    · iexact HSI

end Cert.LnProof
-- ==== Proof.Same.lean ====
/-
The kernel as traced and its idealized reading have the same text: no operation was
rewritten. Here the two programs are identified, definition by definition, so that the run of
one is the run of the other.
-/
module

public import proofs.«01_k».proof.Proof.Gen.Kernel.Launch
public import proofs.«01_k».proof.Proof.Gen.KernelIdeal.Launch

@[expose] public section

noncomputable section

namespace Cert.LnProof

open Idealize.ShloMosaic Idealize.SL.Sem

variable {F : FTy → Type} [FloatOps F]
variable [Cert.Kernel.Facts] [Cert.KernelIdeal.Facts]

/-- The kernel's body, on every grid point and its operands, is one text. -/
theorem same_body : Cert.Kernel.cc0_body (F := F) = Cert.KernelIdeal.cc0_body (F := F) := rfl

/-- So is the pipeline it runs in. -/
theorem same_pcfg : Cert.Kernel.pcfg0 (F := F) = Cert.KernelIdeal.pcfg0 (F := F) := rfl

/-- The body tables agree at their one label. -/
theorem same_defs₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl

/-- The tables with the pipeline's own labels agree. -/
theorem same_defs : Cert.Kernel.defs (F := F) = Cert.KernelIdeal.defs (F := F) := by
  unfold Cert.Kernel.defs Cert.KernelIdeal.defs
  rewrite [same_defs₀]
  rfl

/-- The host programs agree, operation by operation. -/
theorem same_main : Cert.Kernel.main (F := F) = Cert.KernelIdeal.main (F := F) := by
  chain_rfl

/-- A run of the idealized text is a run of the traced one. -/
theorem same_run (m : (ℓ : Loc Cert.KernelIdeal.nD Cert.KernelIdeal.τ Cert.KernelIdeal.sig) → Buf (Elt F) ℓ) (ρ : Dev Cert.KernelIdeal.nD → PrngReg)
    {post : PUnit × _ → Prop}
    (h : θ_run (Cert.KernelIdeal.defs (F := F)) (onTc (τ := Cert.KernelIdeal.τ) (Cert.KernelIdeal.main (F := F))) ⟨m, fun _ => 0, ρ⟩ post) :
    θ_run (Cert.Kernel.defs (F := F)) (onTc (τ := Cert.Kernel.τ) (Cert.Kernel.main (F := F))) ⟨m, fun _ => 0, ρ⟩ post := by
  rewrite [same_main, same_defs]
  exact h

end Cert.LnProof
-- ==== Proof.RefValue.lean ====
/-
What the reference computes, read at one element: the row's sums, divided by the root of their mean square, times gamma.
-/
module

public import proofs.«01_k».proof.Proof.Gen.ReferenceIdeal.Run
public import Idealize.ShloMosaic.Lib.Pointwise

@[expose] public section

set_option maxRecDepth 16384

noncomputable section

namespace Cert.LnProof

open Idealize.ShloMosaic Idealize.SL.Sem
open Cert.ReferenceIdeal Cert.ReferenceIdeal.Gen

/-- The whole arrays of the problem: the two partial sums, the residual, the gains. -/
abbrev Parts : Type := (⟨3, ![2, 8192, 2048]⟩ : Shape).Idx → EReal
abbrev Rows : Type := (⟨2, ![8192, 2048]⟩ : Shape).Idx → EReal
abbrev Gains : Type := (⟨1, ![2048]⟩ : Shape).Idx → EReal

/-- One element of the reduced sum with the residual added. -/
def total (A0 : Parts) (A1 : Rows) (r : Fin 8192) (k : Fin 2048) : EReal := A0 (ix3 0 r k) + A0 (ix3 1 r k) + A1 (ix2 r k)

/-- One element of the result. -/
def normed (A0 : Parts) (A1 : Rows) (A2 : Gains) : Rows := fun i =>
  Ideal.div (total A0 A1 (i 0) (i 1))
      (Ideal.sqrt (Ideal.div (∑ x : Fin 2048, total A0 A1 (i 0) x * total A0 A1 (i 0) x) (Ideal.ofBits FTy.f32 0x45000000#32)
        + Ideal.ofBits FTy.f32 0x358637BD#32))
    * A2 (ix1 (i 1))

/-- The reference's array, in its own operations. -/
def refArr (A0 : Parts) (A1 : Rows) (A2 : Gains) : Rows :=
  mulf (F := Ideal) (φ := .f32) (Host.divf (addf (Host.reduceAdd A0 (constant S_ .f32 0x00000000#32) reducesTo_S2x8192x2048_S8192x2048_d0 h_S_) A1) (broadcastInDim S8192x2048 ![0, 1] bcast_S8192x1_S8192x2048_0_1 (Host.sqrt (addf (Host.divf (broadcastInDim S8192x1 ![0] bcast_S8192_S8192x1_0 (Host.reduceAdd (mulf (addf (Host.reduceAdd A0 (constant S_ .f32 0x00000000#32) reducesTo_S2x8192x2048_S8192x2048_d0 h_S_) A1) (addf (Host.reduceAdd A0 (constant S_ .f32 0x00000000#32) reducesTo_S2x8192x2048_S8192x2048_d0 h_S_) A1)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 A2))

theorem ref_at (A0 : Parts) (A1 : Rows) (A2 : Gains) : refArr A0 A1 A2 = normed A0 A1 A2 := by
  funext i
  unfold refArr normed total
  pointwise
  simp only [Fin.sum_univ_two]

/-- The reference's run ends with that array, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = normed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_at _ _ _), (h c).2⟩) (Cert.ReferenceIdeal.Value.run (F := Ideal) m ρ)

end Cert.LnProof
-- ==== Proof.Value.lean ====
/-
What the kernel leaves in the output: on every device the normalised rows of the sum of both partial sums and the residual.
-/
module

public import proofs.«01_k».proof.Proof.Launch
public import proofs.«01_k».proof.Proof.RefValue
public import Idealize.ShloMosaic.Lib.Pipeline.ValueKit
public import Idealize.ShloMosaic.Lib.Pipeline.Covers

@[expose] public section

set_option maxRecDepth 16384

noncomputable section

namespace Cert.LnProof

open Cert.KernelIdeal Cert.KernelIdeal.Gen
open Idealize.ShloMosaic Idealize.ShloMosaic.TcCoe Idealize.SL.Sem

variable (m : (ℓ : Loc nD τ sig) → Buf (Elt Ideal) ℓ)

/-! ## The row block of a step -/

theorem coords_val : ∀ t : Fin grid0.N, (grid0.coords t 0).val = t.val := by decide +kernel
theorem gblk_coords (c : Dev nD) (t : Fin grid0.N) : gblk c (grid0.coords t) = blk c (tj t) := by
  unfold gblk; exact congrArg (blk c) (Fin.ext (coords_val t))

theorem nblk_rows {c : Dev nD} : ((cfgD (F := Ideal) c).win (3 : Fin 4)).nblk (0 : Fin 2) = 32 := show (8192 + 256 - 1) / 256 = 32 by norm_num
theorem nblk_cols {c : Dev nD} : ((cfgD (F := Ideal) c).win (3 : Fin 4)).nblk (1 : Fin 2) = 1 := show (2048 + 2048 - 1) / 2048 = 1 by norm_num

/-- The steps write every row block of the output. -/
theorem covers_out (c : Dev nD) : ((cfgD (F := Ideal) c).win (3 : Fin 4)).Covers :=
  Pipeline.Window.covers_of_indexMap_surj _ rfl (Fin.forall_fin_two.mpr ⟨(by decide : 0 < 256), (by decide : 0 < 2048)⟩) fun β => by
    have h0 : (β (0 : Fin 2)).val < 32 := lt_of_lt_of_eq (β (0 : Fin 2)).isLt nblk_rows
    have h1 : (β (1 : Fin 2)).val < 1 := lt_of_lt_of_eq (β (1 : Fin 2)).isLt nblk_cols
    obtain ⟨i, hi⟩ : ∃ i : grid0.Coords, gblk c i = ⟨(β (0 : Fin 2)).val, h0⟩ :=
      ⟨fun | ⟨0, _⟩ => stp c ⟨(β (0 : Fin 2)).val, h0⟩, blk_stp c _⟩
    refine ⟨i, Fin.forall_fin_two.mpr ⟨?_, ?_⟩⟩
    · exact (congrFun (ix_out (F := Ideal) c i) 0).trans (congrArg Fin.val hi)
    · refine (congrFun (ix_out (F := Ideal) c i) 1).trans ?_
      show 0 = (β (1 : Fin 2)).val
      omega

/-! ## Where an element of a block lies -/

theorem emb_partial (c : Dev nD) (t : Fin grid0.N) (y : S1x256x2048.Idx) :
    (((((cfgD (F := Ideal) c).win (0 : Fin 4)).blk t).view.emb y : S1x8192x2048.Idx) 1).val = 256 * (blk c (tj t)).val + (y 1).val
    ∧ (((((cfgD (F := Ideal) c).win (0 : Fin 4)).blk t).view.emb y : S1x8192x2048.Idx) 2).val = (y 2).val := by
  have e : ((cfgD (F := Ideal) c).win (0 : Fin 4)).index t = ![0, (blk c (tj t)).val, 0] := (ix_partial (F := Ideal) c (grid0.coords t)).trans (by rw [gblk_coords])
  refine ⟨(Pipeline.Window.rect_emb_val ((cfgD (F := Ideal) c).win (0 : Fin 4)) t y (1 : Fin 3)).trans ?_,
    (Pipeline.Window.rect_emb_val ((cfgD (F := Ideal) c).win (0 : Fin 4)) t y (2 : Fin 3)).trans ?_⟩
  · rw [e]; show (blk c (tj t)).val * 256 + (y 1).val = _; omega
  · rw [e]; show 0 * 2048 + (y 2).val = _; omega

theorem emb_resid (c : Dev nD) (t : Fin grid0.N) (y : S256x2048.Idx) :
    (((((cfgD (F := Ideal) c).win (1 : Fin 4)).blk t).view.emb y : S8192x2048.Idx) 0).val = 256 * (blk c (tj t)).val + (y 0).val
    ∧ (((((cfgD (F := Ideal) c).win (1 : Fin 4)).blk t).view.emb y : S8192x2048.Idx) 1).val = (y 1).val := by
  have e : ((cfgD (F := Ideal) c).win (1 : Fin 4)).index t = ![(blk c (tj t)).val, 0] := (ix_resid (F := Ideal) c (grid0.coords t)).trans (by rw [gblk_coords])
  refine ⟨(Pipeline.Window.rect_emb_val ((cfgD (F := Ideal) c).win (1 : Fin 4)) t y (0 : Fin 2)).trans ?_,
    (Pipeline.Window.rect_emb_val ((cfgD (F := Ideal) c).win (1 : Fin 4)) t y (1 : Fin 2)).trans ?_⟩
  · rw [e]; show (blk c (tj t)).val * 256 + (y 0).val = _; omega
  · rw [e]; show 0 * 2048 + (y 1).val = _; omega

theorem emb_gamma (c : Dev nD) (t : Fin grid0.N) (y : S1x2048.Idx) :
    (((((cfgD (F := Ideal) c).win (2 : Fin 4)).blk t).view.emb y : S1x2048.Idx) 1).val = (y 1).val := by
  refine (Pipeline.Window.rect_emb_val ((cfgD (F := Ideal) c).win (2 : Fin 4)) t y (1 : Fin 2)).trans ?_
  show 0 * 2048 + (y 1).val = _; omega

theorem emb_out (c : Dev nD) (t : Fin grid0.N) (y : S256x2048.Idx) :
    (((((cfgD (F := Ideal) c).win (3 : Fin 4)).blk t).view.emb y : S8192x2048.Idx) 0).val = 256 * (blk c (tj t)).val + (y 0).val
    ∧ (((((cfgD (F := Ideal) c).win (3 : Fin 4)).blk t).view.emb y : S8192x2048.Idx) 1).val = (y 1).val := by
  have e : ((cfgD (F := Ideal) c).win (3 : Fin 4)).index t = ![(blk c (tj t)).val, 0] := (ix_out (F := Ideal) c (grid0.coords t)).trans (by rw [gblk_coords])
  refine ⟨(Pipeline.Window.rect_emb_val ((cfgD (F := Ideal) c).win (3 : Fin 4)) t y (0 : Fin 2)).trans ?_,
    (Pipeline.Window.rect_emb_val ((cfgD (F := Ideal) c).win (3 : Fin 4)) t y (1 : Fin 2)).trans ?_⟩
  · rw [e]; show (blk c (tj t)).val * 256 + (y 0).val = _; omega
  · rw [e]; show 0 * 2048 + (y 1).val = _; omega

/-! ## The blocks a step works on, read at an element -/

/-- Two indices with equal coordinates. -/
theorem idx3_ext {i j : S1x8192x2048.Idx} (h1 : (i 1).val = (j 1).val) (h2 : (i 2).val = (j 2).val) : i = j := by
  have hi : (i 0).val < 1 := (i 0).isLt
  have hj : (j 0).val < 1 := (j 0).isLt
  funext a
  refine Fin.ext ?_
  revert a
  refine Fin.forall_fin_succ.mpr ⟨?_, Fin.forall_fin_two.mpr ⟨h1, h2⟩⟩
  omega
theorem idx2_ext {i j : S8192x2048.Idx} (h0 : (i 0).val = (j 0).val) (h1 : (i 1).val = (j 1).val) : i = j := by
  funext a
  refine Fin.ext ?_
  revert a
  exact Fin.forall_fin_two.mpr ⟨h0, h1⟩

/-- The three blocks of a step that come through the pipeline. -/
def ownBlk (c : Dev nD) (t : Fin grid0.N) : S1x256x2048.Idx → EReal := fblk m c (0 : Fin 4) t
def residBlk (c : Dev nD) (t : Fin grid0.N) : S256x2048.Idx → EReal := fblk m c (1 : Fin 4) t
def gainBlk (c : Dev nD) (t : Fin grid0.N) : S1x2048.Idx → EReal := fblk m c (2 : Fin 4) t
theorem outRows_eq (c : Dev nD) (t : Fin grid0.N) :
    outRows m c t = k0_pay1 (F := Ideal) (ownBlk m c t) (rcv (PP m) c t) (residBlk m c t) (gainBlk m c t) := rfl

theorem partial_at (c : Dev nD) (t : Fin grid0.N) (y : S1x256x2048.Idx) (i : S1x8192x2048.Idx)
    (h1 : (i 1).val = 256 * (blk c (tj t)).val + (y 1).val) (h2 : (i 2).val = (y 2).val) :
    ownBlk m c t y = PP m c i := by
  unfold ownBlk fblk
  blk_simp
  exact congrArg (PP m c) (idx3_ext ((emb_partial c t y).1.trans h1.symm) ((emb_partial c t y).2.trans h2.symm))

theorem resid_at (c : Dev nD) (t : Fin grid0.N) (y : S256x2048.Idx) (i : S8192x2048.Idx)
    (h0 : (i 0).val = 256 * (blk c (tj t)).val + (y 0).val) (h1 : (i 1).val = (y 1).val) :
    residBlk m c t y = m ((c : Thread nD τ).loc main_arg1) i := by
  unfold residBlk fblk
  blk_simp
  exact congrArg (m ((c : Thread nD τ).loc main_arg1)) (idx2_ext ((emb_resid c t y).1.trans h0.symm) ((emb_resid c t y).2.trans h1.symm))

theorem received_at (c : Dev nD) (t : Fin grid0.N) (y : S256x2048.Idx) (i : S1x8192x2048.Idx)
    (h1 : (i 1).val = 256 * (blk c (tj t)).val + (y 0).val) (h2 : (i 2).val = (y 1).val) :
    rcv (PP m) c t y = PP m (origin c (tj t)) i := by
  unfold rcv
  show recvVal (PP m) c ((rowM (blk c (tj t))).view.emb y) = _
  unfold recvVal
  have e := rowM_emb (blk c (tj t)) y
  have hy : (y 0).val < 256 := (y 0).isLt
  have hb : (⟨(((rowM (blk c (tj t))).view.emb y : S8192x2048.Idx) 0).val / 256, by rw [e.1]; have := (blk c (tj t)).isLt; omega⟩ : Fin 32) = blk c (tj t) :=
    Fin.ext (by show _ / 256 = _; rw [e.1]; omega)
  rw [hb, rowOrigin_blk]
  exact congrArg (PP m (origin c (tj t))) (idx3_ext (e.1.trans h1.symm) (e.2.trans h2.symm))

/-- The host reshapes gamma into one row. -/
theorem gamma_row (c : Dev nD) : V7 m c main_v1 = shapeCast S1x2048 (m ((c : Thread nD τ).loc main_arg2)) shapeCasts_S2048_S1x2048 := by
  refine (V7_of m c main_v1 (by decide)).trans <| (V6_of m c main_v1 (by decide)).trans <| (V5_of m c main_v1 (by decide)).trans <|
    (V4_of m c main_v1 (by decide)).trans <| (V3_of m c main_v1 (by decide)).trans <| (V2_of m c main_v1 (by decide)).trans ?_
  after_reads_simp
  rfl
theorem row_cast (A : Gains) (k : Fin 2048) : shapeCast S1x2048 A shapeCasts_S2048_S1x2048 (ix2 (0 : Fin 1) k) = A (ix1 k) := by
  pointwise
theorem row_ext {i j : S1x2048.Idx} (h : (i 1).val = (j 1).val) : i = j := by
  have hi : (i 0).val < 1 := (i 0).isLt
  have hj : (j 0).val < 1 := (j 0).isLt
  funext a
  refine Fin.ext ?_
  revert a
  refine Fin.forall_fin_two.mpr ⟨?_, h⟩
  omega
theorem gains_at (c : Dev nD) (t : Fin grid0.N) (k : Fin 2048) :
    gainBlk m c t (ix2 (0 : Fin 1) k) = m ((c : Thread nD τ).loc main_arg2) (ix1 k) := by
  unfold gainBlk fblk
  blk_simp
  show V7 m c main_v1 _ = _
  rw [gamma_row]
  refine (congrArg (shapeCast S1x2048 (m ((c : Thread nD τ).loc main_arg2)) shapeCasts_S2048_S1x2048) (row_ext (j := ix2 (0 : Fin 1) k) (emb_gamma c t (ix2 (0 : Fin 1) k)))).trans ?_
  exact row_cast _ k

/-! ## The body's arithmetic -/

/-- A row of the body's result: the sums over the root of their mean square, times gamma. -/
theorem pay_at (v64 : S1x256x2048.Idx → EReal) (v66 v68 : S256x2048.Idx → EReal) (v81 : S1x2048.Idx → EReal) (y : S256x2048.Idx)
    (f : Fin 2048 → EReal) (hf : ∀ k, v64 (ix3 (0 : Fin 1) (y 0) k) + v66 (ix2 (y 0) k) + v68 (ix2 (y 0) k) = f k) :
    k0_pay1 (F := Ideal) v64 v66 v68 v81 y
      = Ideal.div (f (y 1))
          (Ideal.sqrt (Ideal.div (∑ x : Fin 2048, f x * f x) (Ideal.ofBits FTy.f32 0x45000000#32) + Ideal.ofBits FTy.f32 0x358637BD#32))
        * v81 (ix2 (0 : Fin 1) (y 1)) := by
  simp only [← hf]
  unfold k0_pay1
  pointwise
  rw [← hf (y 1), ix2_eta y]

/-! ## The result -/

/-- A device's part of the partial sums: the half of its y. -/
theorem block_at (c : Dev nD) (A : Parts) (i : S1x8192x2048.Idx) :
    (Layout.blockN ⟨3, ![1, 8192, 2048]⟩ ⟨3, ![2, 8192, 2048]⟩ (Layout.meshBlock [2, 2, 4] ![[1], [], []] c) A) i
      = A (ix3 (⟨c.val / 4 % 2, by omega⟩ : Fin 2) (i 1) (i 2)) := by
  have hi : (i 0).val < 1 := (i 0).isLt
  rw [Layout.blockN_apply]
  refine congrArg A (funext fun a => Fin.ext ?_)
  rw [Layout.TilesN.idx_val]
  revert a
  refine Fin.forall_fin_succ.mpr ⟨?_, Fin.forall_fin_two.mpr ⟨?_, ?_⟩⟩
  · show (c.val / 4 % 2 * 1 + 0) * 1 + (i 0).val = c.val / 4 % 2; omega
  · show 0 * 8192 + (i 1).val = (i 1).val; omega
  · show 0 * 2048 + (i 2).val = (i 2).val; omega

/-- The output array is what its row blocks are. -/
theorem out_of (c : Dev nD) (G : S8192x2048.Idx → EReal)
    (hG : ∀ (t : Fin grid0.N) (y : S256x2048.Idx), outRows m c t y = G (((cfgD (F := Ideal) c).win (3 : Fin 4)).blk t |>.view.emb y)) :
    (dats m 0 c).arrAt (3 : Fin 4) (cfgD (F := Ideal) c).N = G := by
  refine (dats m 0 c).arrAt_eq_of_covers (3 : Fin 4) G (covers_out c) (fun t hf y => ?_)
  blk_simp
  exact hG t y

section Whole

variable (A0 : Parts) (A1 : Rows) (A2 : Gains)
  (h0 : ∀ (c : Dev nD) (i : S1x8192x2048.Idx), PP m c i = A0 (ix3 (⟨c.val / 4 % 2, by omega⟩ : Fin 2) (i 1) (i 2)))
  (h1 : ∀ c : Dev nD, m ((c : Thread nD τ).loc main_arg1) = A1) (h2 : ∀ c : Dev nD, m ((c : Thread nD τ).loc main_arg2) = A2)
include h0 h1

/-- The own half, the received half and the residual make the whole sum. -/
theorem sum_at (c : Dev nD) (t : Fin grid0.N) (y0 : Fin 256) (r : Fin 8192) (hr : r.val = 256 * (blk c (tj t)).val + y0.val) (k : Fin 2048) :
    ownBlk m c t (ix3 (0 : Fin 1) y0 k) + rcv (PP m) c t (ix2 y0 k) + residBlk m c t (ix2 y0 k) = total A0 A1 r k := by
  rw [partial_at m c t (ix3 (0 : Fin 1) y0 k) (ix3 (0 : Fin 1) r k) hr rfl, received_at m c t (ix2 y0 k) (ix3 (0 : Fin 1) r k) hr rfl,
    resid_at m c t (ix2 y0 k) (ix2 r k) hr rfl, h0, h0, h1]
  unfold total
  have ho := origin_other c (tj t)
  have hc : c.val / 4 % 2 = 0 ∨ c.val / 4 % 2 = 1 := by omega
  rcases hc with hc | hc
  · have e : (⟨c.val / 4 % 2, by omega⟩ : Fin 2) = 0 := Fin.ext hc
    have e' : (⟨(origin c (tj t)).val / 4 % 2, by omega⟩ : Fin 2) = 1 := Fin.ext (by show _ % 2 = 1; omega)
    rw [e, e']
    rfl
  · have e : (⟨c.val / 4 % 2, by omega⟩ : Fin 2) = 1 := Fin.ext hc
    have e' : (⟨(origin c (tj t)).val / 4 % 2, by omega⟩ : Fin 2) = 0 := Fin.ext (by show _ % 2 = 0; omega)
    rw [e, e']
    exact congrArg (· + A1 (ix2 r k)) (add_comm _ _)

include h2

/-- The rows a step writes. -/
theorem rows_at (c : Dev nD) (t : Fin grid0.N) (y : S256x2048.Idx) (i : S8192x2048.Idx)
    (hr : (i 0).val = 256 * (blk c (tj t)).val + (y 0).val) (hk : (i 1).val = (y 1).val) :
    outRows m c t y = normed A0 A1 A2 i := by
  have hk' : (y 1 : Fin 2048) = i 1 := Fin.ext hk.symm
  rw [outRows_eq]
  refine (pay_at (ownBlk m c t) (rcv (PP m) c t) (residBlk m c t) (gainBlk m c t) y (total A0 A1 (i 0)) fun k => sum_at m A0 A1 h0 h1 c t (y 0) (i 0) hr k).trans ?_
  have hg : gainBlk m c t (ix2 (0 : Fin 1) (y 1)) = A2 (ix1 (i 1)) :=
    (gains_at m c t (y 1)).trans ((congrFun (h2 c) _).trans (congrArg (fun k : Fin 2048 => A2 (ix1 k)) hk'))
  unfold normed
  exact congrArg₂ (fun a b : EReal => a * b) (congrArg (fun k : Fin 2048 => Ideal.div (total A0 A1 (i 0) k) _) hk') hg

/-- The output array at the end of the run. -/
theorem out_eq (c : Dev nD) : (dats m 0 c).arrAt (3 : Fin 4) (cfgD (F := Ideal) c).N = normed A0 A1 A2 :=
  out_of m c (normed A0 A1 A2) fun t y => rows_at m A0 A1 A2 h0 h1 h2 c t y _ (emb_out c t y).1 (emb_out c t y).2

end Whole

end Cert.LnProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frame of the kernel as traced: its text is the idealized one's. -/
theorem frame_Kernel : Cert.quiescent_Kernel (hKernel := Cert.Kernel.Gen.facts) := fun m ρ _ =>
  LnProof.same_run (F := Bits) m ρ
    ((θ_run Cert.KernelIdeal.defs _ _).mono (fun _ h => ⟨fun c => (h.1 c).1, h.2⟩) (LnProof.run_main (F := Bits) m ρ))

/-- The frame of the idealized kernel. -/
theorem frame_KernelIdeal : Cert.quiescent_KernelIdeal (hKernelIdeal := Cert.KernelIdeal.Gen.facts) := fun m ρ _ =>
  (θ_run Cert.KernelIdeal.defs _ _).mono (fun _ h => ⟨fun c => (h.1 c).1, h.2⟩) (LnProof.run_main (F := Ideal) m ρ)

/-- The frame of the reference: its run changes no argument, and it has no semaphores. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- On every device the kernel's result is the reference's. -/
theorem algebraic : Cert.algebraic_KernelIdeal_ReferenceIdeal (hKernelIdeal := Cert.KernelIdeal.Gen.facts) (hReferenceIdeal := Cert.ReferenceIdeal.Gen.facts) :=
  fun m g m' g' _ hw => by
    refine ⟨LnProof.normed (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
    · refine (θ_run Cert.KernelIdeal.defs _ _).mono (fun r h c => ⟨(h.1 c).2.1.trans ?_, (h.1 c).1⟩) (LnProof.run_main (F := Ideal) m g)
      exact LnProof.out_eq m _ _ _ (fun c i => (congrFun (hw c).1 i).trans (LnProof.block_at c _ i)) (fun c => (hw c).2.1) (fun c => (hw c).2.2) c
    · exact (θ_run Cert.ReferenceIdeal.defs _ _).mono (fun r h => h 0) (LnProof.ref_run m' g')

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
